-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sound_rays [hPre_sound_rays : Cert.Pre_sound_rays.Facts] (m : (ℓ : Loc Cert.KernelIdeal.nD Cert.KernelIdeal.τ Cert.KernelIdeal.sig) → Buf (Elt Ideal) ℓ) : Prop :=
  ∀ c : Dev Cert.KernelIdeal.nD,
    (Cert.Pre_sound_rays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_sound_rays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_sound_rays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_sound_rays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound_rays [hPre_sound_rays : Cert.Pre_sound_rays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound_rays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_sound_rays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_sound_rays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_sound_rays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sound_rays [hKernelIdeal : Cert.KernelIdeal.Facts] [hPre_sound_rays : Cert.Pre_sound_rays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sound_rays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sound_rays [hReferenceIdeal : Cert.ReferenceIdeal.Facts] [hPre_sound_rays : Cert.Pre_sound_rays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound_rays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "step" .f32 0x3C010204#32 ((127⁻¹ : ℝ) : EReal)
  ∧ IdealRules.named_const.Statement Cert.KernelIdeal.κ "pad" .f32 0x7F61B1E6#32 ⊤

def algebraic_KernelIdeal_ReferenceIdeal_pre_sound_rays [hKernelIdeal : Cert.KernelIdeal.Facts] [hReferenceIdeal : Cert.ReferenceIdeal.Facts] [hPre_sound_rays : Cert.Pre_sound_rays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sound_rays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sound_rays : Cert.Pre_sound_rays.Facts),
    quiescent_Kernel (hKernel := hKernel)
    ∧ quiescent_KernelIdeal (hKernelIdeal := hKernelIdeal)
    ∧ quiescent_KernelIdeal_pre_sound_rays (hKernelIdeal := hKernelIdeal) (hPre_sound_rays := hPre_sound_rays)
    ∧ quiescent_ReferenceIdeal (hReferenceIdeal := hReferenceIdeal)
    ∧ quiescent_ReferenceIdeal_pre_sound_rays (hReferenceIdeal := hReferenceIdeal) (hPre_sound_rays := hPre_sound_rays)
    ∧ preserves_Kernel_KernelIdeal
    ∧ algebraic_KernelIdeal_ReferenceIdeal_pre_sound_rays (hKernelIdeal := hKernelIdeal) (hReferenceIdeal := hReferenceIdeal) (hPre_sound_rays := hPre_sound_rays)
-- ==== Pre_sound_rays.lean ====
abbrev S65536x3 : Shape := ⟨2, ![65536, 3]⟩
abbrev S65536x64 : Shape := ⟨2, ![65536, 64]⟩
abbrev S65536x62 : Shape := ⟨2, ![65536, 62]⟩
abbrev S_ : Shape := ⟨0, ![]⟩
abbrev S65536 : Shape := ⟨1, ![65536]⟩
abbrev S65536x1 : Shape := ⟨2, ![65536, 1]⟩
abbrev S65536x61 : Shape := ⟨2, ![65536, 61]⟩
abbrev S127 : Shape := ⟨1, ![127]⟩
abbrev S1 : Shape := ⟨1, ![1]⟩
abbrev S128 : Shape := ⟨1, ![128]⟩
abbrev S1x128x1 : Shape := ⟨3, ![1, 128, 1]⟩
abbrev S65536x1x62 : Shape := ⟨3, ![65536, 1, 62]⟩
abbrev S65536x128x62 : Shape := ⟨3, ![65536, 128, 62]⟩
abbrev S65536x63 : Shape := ⟨2, ![65536, 63]⟩

class Facts : Prop where
  slices_S65536x64_S65536x62_0_1 : S65536x64.Slices ![0, 1] S65536x62
  bcast_S_S65536x62 : S_.BroadcastsInDim S65536x62 (![] : Fin 0 → Fin S65536x62.rank)
  reducesTo_S65536x62_S65536_d1 : S65536x62.ReducesTo [1] S65536
  h_S_ : 0 < S_.numel
  bcast_S65536_S65536x1_0 : S65536.BroadcastsInDim S65536x1 (![0] : Fin 1 → Fin S65536x1.rank)
  bcast_S65536x1_S65536x62_0_1 : S65536x1.BroadcastsInDim S65536x62 (![0, 1] : Fin 2 → Fin S65536x62.rank)
  bcast_S_S_ : S_.BroadcastsInDim S_ (![] : Fin 0 → Fin S_.rank)
  reduceWindows_S65536x62_S65536x62_w1s1p0_0_w62s1p61_0 : S65536x62.ReduceWindows (![1, 62] : Fin 2 → Nat) ![1, 1] ![0, 61] ![0, 0] S65536x62
  slices_S65536x62_S65536x1_0_0 : S65536x62.Slices ![0, 0] S65536x1
  bcast_S_S65536x1 : S_.BroadcastsInDim S65536x1 (![] : Fin 0 → Fin S65536x1.rank)
  slices_S65536x62_S65536x61_0_0 : S65536x62.Slices ![0, 0] S65536x61
  concatenates_S65536x1_S65536x61_S65536x62_d1 : Shape.Concatenates [S65536x1, S65536x61] S65536x62 1
  bcast_S_S127 : S_.BroadcastsInDim S127 (![] : Fin 0 → Fin S127.rank)
  shapeCasts_S_S1 : S_.ShapeCasts S1
  bcast_S1_S127_0 : S1.BroadcastsInDim S127 (![0] : Fin 1 → Fin S127.rank)
  bcast_S_S1 : S_.BroadcastsInDim S1 (![] : Fin 0 → Fin S1.rank)
  concatenates_S127_S1_S128_d0 : Shape.Concatenates [S127, S1] S128 0
  bcast_S128_S1x128x1_1 : S128.BroadcastsInDim S1x128x1 (![1] : Fin 1 → Fin S1x128x1.rank)
  bcast_S65536x62_S65536x1x62_0_2 : S65536x62.BroadcastsInDim S65536x1x62 (![0, 2] : Fin 2 → Fin S65536x1x62.rank)
  bcast_S65536x1x62_S65536x128x62_0_1_2 : S65536x1x62.BroadcastsInDim S65536x128x62 (![0, 1, 2] : Fin 3 → Fin S65536x128x62.rank)
  bcast_S1x128x1_S65536x128x62_0_1_2 : S1x128x1.BroadcastsInDim S65536x128x62 (![0, 1, 2] : Fin 3 → Fin S65536x128x62.rank)
  bcast_S_S65536x1x62 : S_.BroadcastsInDim S65536x1x62 (![] : Fin 0 → Fin S65536x1x62.rank)
  bcast_S_S65536x64 : S_.BroadcastsInDim S65536x64 (![] : Fin 0 → Fin S65536x64.rank)
  slices_S65536x64_S65536x63_0_0 : S65536x64.Slices ![0, 0] S65536x63
  slices_S65536x64_S65536x63_0_1 : S65536x64.Slices ![0, 1] S65536x63

variable [Facts]

def fn_cumsum_0 {F : FTy → Type} [FloatOps F] (arg0 : FVec F S65536x62 .f32) : FVec F S65536x62 .f32 :=
  let cst : FVec F S_ .f32 := constant S_ .f32 0x00000000#32
  let v0 : FVec F S_ .f32 := broadcastInDim S_ ![] bcast_S_S_ cst
  let v1 : FVec F S65536x62 .f32 := (fun x v => Host.reduceWindowAdd ![1, 62] ![1, 1] ![0, 61] ![0, 0] x v reduceWindows_S65536x62_S65536x62_w1s1p0_0_w62s1p61_0 h_S_) arg0 v0
  v1

def fn_cumsum {F : FTy → Type} [FloatOps F] (arg0 : FVec F S65536x62 .f32) : FVec F S65536x62 .f32 :=
  let v0 : FVec F S65536x62 .f32 := fn_cumsum_0 (F := F) arg0
  v0

def fn_linspace {F : FTy → Type} [FloatOps F] (arg0 : FVec F S_ .f32) (arg1 : FVec F S_ .f32) : FVec F S128 .f32 :=
  let v0 : FVec F S_ .f32 := id arg0
  let v1 : FVec F S_ .f32 := id arg1
  let v2 : FVec F S_ .f32 := subf v1 v0
  let cst : FVec F S_ .f32 := constant S_ .f32 0x42FE0000#32
  let v3 : FVec F S_ .f32 := Host.divf v2 cst
  let v4 : FVec F S127 .f32 := sitofp .f32 (iotaInDim S127 32 0)
  let cst_0 : FVec F S_ .f32 := constant S_ .f32 0x42FE0000#32
  let v5 : FVec F S127 .f32 := broadcastInDim S127 ![] bcast_S_S127 cst_0
  let v6 : FVec F S127 .f32 := Host.divf v4 v5
  let v7 : FVec F S1 .f32 := shapeCast S1 v0 shapeCasts_S_S1
  let cst_1 : FVec F S_ .f32 := constant S_ .f32 0x3F800000#32
  let v8 : FVec F S127 .f32 := broadcastInDim S127 ![] bcast_S_S127 cst_1
  let v9 : FVec F S127 .f32 := subf v8 v6
  let v10 : FVec F S127 .f32 := broadcastInDim S127 ![0] bcast_S1_S127_0 v7
  let v11 : FVec F S127 .f32 := mulf v10 v9
  let v12 : FVec F S1 .f32 := shapeCast S1 v1 shapeCasts_S_S1
  let v13 : FVec F S127 .f32 := broadcastInDim S127 ![0] bcast_S1_S127_0 v12
  let v14 : FVec F S127 .f32 := mulf v13 v6
  let v15 : FVec F S127 .f32 := addf v11 v14
  let v16 : FVec F S1 .f32 := broadcastInDim S1 ![] bcast_S_S1 v1
  let v17 : FVec F S128 .f32 := (fun a b => concatenate S128 0 [⟨S127, a⟩, ⟨S1, b⟩] concatenates_S127_S1_S128_d0) v15 v16
  v17

def fn_part2 {F : FTy → Type} [FloatOps F] (main_v31 : IVec S65536x64 1) (main_v34 : IVec S65536x63 1) (main_v36 : IVec S65536x62 1) (main_v38 : IVec S65536x128x62 1) : IVec S65536x64 1 × IVec S65536x63 1 × IVec S65536x62 1 × IVec S65536x128x62 1 :=
  let main_v39 : IVec S65536x128x62 1 := noti main_v38
  (main_v31, main_v34, main_v36, main_v39)

def fn_part1 {F : FTy → Type} [FloatOps F] (main_arg2 : FVec F S65536x64 .f32) (main_v6 : FVec F S65536x62 .f32) (main_v7 : FVec F S65536x62 .f32) (main_v11 : FVec F S65536x62 .f32) (main_v13 : FVec F S1x128x1 .f32) (main_v17 : IVec S65536x128x62 1) (main_cst_4 : FVec F S_ .f32) : IVec S65536x64 1 × IVec S65536x63 1 × IVec S65536x62 1 × IVec S65536x128x62 1 :=
  let main_v18 : FVec F S65536x62 .f32 := broadcastInDim S65536x62 ![] bcast_S_S65536x62 main_cst_4
  let main_v19 : FVec F S65536x62 .f32 := minimumf main_v7 main_v18
  let main_v20 : FVec F S65536x1x62 .f32 := broadcastInDim S65536x1x62 ![0, 2] bcast_S65536x62_S65536x1x62_0_2 main_v19
  let main_v21 : FVec F S65536x128x62 .f32 := broadcastInDim S65536x128x62 ![0, 1, 2] bcast_S1x128x1_S65536x128x62_0_1_2 main_v13
  let main_v22 : FVec F S65536x128x62 .f32 := broadcastInDim S65536x128x62 ![0, 1, 2] bcast_S65536x1x62_S65536x128x62_0_1_2 main_v20
  let main_v23 : IVec S65536x128x62 1 := cmpf .olt main_v21 main_v22
  let main_v24 : IVec S65536x128x62 1 := andi main_v17 main_v23
  let main_v25 : FVec F S65536x62 .f32 := subf main_v7 main_v11
  let main_v26 : FVec F S65536x1x62 .f32 := broadcastInDim S65536x1x62 ![0, 2] bcast_S65536x62_S65536x1x62_0_2 main_v25
  let main_cst_5 : FVec F S_ .f32 := constant S_ .f32 0x3727C5AC#32
  let main_v27 : FVec F S65536x1x62 .f32 := broadcastInDim S65536x1x62 ![] bcast_S_S65536x1x62 main_cst_5
  let main_v28 : IVec S65536x1x62 1 := cmpf .olt main_v26 main_v27
  let main_v29 : FVec F S65536x64 .f32 := Host.absf main_arg2
  let main_cst_6 : FVec F S_ .f32 := constant S_ .f32 0x7F800000#32
  let main_v30 : FVec F S65536x64 .f32 := broadcastInDim S65536x64 ![] bcast_S_S65536x64 main_cst_6
  let main_v31 : IVec S65536x64 1 := cmpf .olt main_v29 main_v30
  let main_v32 : FVec F S65536x63 .f32 := (extractStridedSlice S65536x63 ![0, 0] · slices_S65536x64_S65536x63_0_0) main_arg2
  let main_v33 : FVec F S65536x63 .f32 := (extractStridedSlice S65536x63 ![0, 1] · slices_S65536x64_S65536x63_0_1) main_arg2
  let main_v34 : IVec S65536x63 1 := cmpf .ole main_v32 main_v33
  let main_cst_7 : FVec F S_ .f32 := constant S_ .f32 0x0DA24260#32
  let main_v35 : FVec F S65536x62 .f32 := broadcastInDim S65536x62 ![] bcast_S_S65536x62 main_cst_7
  let main_v36 : IVec S65536x62 1 := cmpf .oge main_v6 main_v35
  let main_v37 : IVec S65536x128x62 1 := broadcastInDim S65536x128x62 ![0, 1, 2] bcast_S65536x1x62_S65536x128x62_0_1_2 main_v28
  let main_v38 : IVec S65536x128x62 1 := andi main_v24 main_v37
  fn_part2 (F := F) main_v31 main_v34 main_v36 main_v38

def fn {F : FTy → Type} [FloatOps F] (main_arg0 : FVec F S65536x3 .f32) (main_arg1 : FVec F S65536x3 .f32) (main_arg2 : FVec F S65536x64 .f32) (main_arg3 : FVec F S65536x64 .f32) : IVec S65536x64 1 × IVec S65536x63 1 × IVec S65536x62 1 × IVec S65536x128x62 1 :=
  let main_v0 : FVec F S65536x62 .f32 := (extractStridedSlice S65536x62 ![0, 1] · slices_S65536x64_S65536x62_0_1) main_arg3
  let main_cst : FVec F S_ .f32 := constant S_ .f32 0x3727C5AC#32
  let main_v1 : FVec F S65536x62 .f32 := broadcastInDim S65536x62 ![] bcast_S_S65536x62 main_cst
  let main_v2 : FVec F S65536x62 .f32 := addf main_v0 main_v1
  let main_cst_0 : FVec F S_ .f32 := constant S_ .f32 0x00000000#32
  let main_v3 : FVec F S65536 .f32 := (fun x v => Host.reduceAdd x v reducesTo_S65536x62_S65536_d1 h_S_) main_v2 main_cst_0
  let main_v4 : FVec F S65536x1 .f32 := broadcastInDim S65536x1 ![0] bcast_S65536_S65536x1_0 main_v3
  let main_v5 : FVec F S65536x62 .f32 := broadcastInDim S65536x62 ![0, 1] bcast_S65536x1_S65536x62_0_1 main_v4
  let main_v6 : FVec F S65536x62 .f32 := Host.divf main_v2 main_v5
  let main_v7 : FVec F S65536x62 .f32 := fn_cumsum (F := F) main_v6
  let main_v8 : FVec F S65536x1 .f32 := (extractStridedSlice S65536x1 ![0, 0] · slices_S65536x62_S65536x1_0_0) main_v7
  let main_cst_1 : FVec F S_ .f32 := constant S_ .f32 0x00000000#32
  let main_v9 : FVec F S65536x1 .f32 := broadcastInDim S65536x1 ![] bcast_S_S65536x1 main_cst_1
  let main_v10 : FVec F S65536x61 .f32 := (extractStridedSlice S65536x61 ![0, 0] · slices_S65536x62_S65536x61_0_0) main_v7
  let main_v11 : FVec F S65536x62 .f32 := (fun a b => concatenate S65536x62 1 [⟨S65536x1, a⟩, ⟨S65536x61, b⟩] concatenates_S65536x1_S65536x61_S65536x62_d1) main_v9 main_v10
  let main_cst_2 : FVec F S_ .f32 := constant S_ .f32 0x00000000#32
  let main_cst_3 : FVec F S_ .f32 := constant S_ .f32 0x3F800000#32
  let main_v12 : FVec F S128 .f32 := fn_linspace (F := F) main_cst_2 main_cst_3
  let main_v13 : FVec F S1x128x1 .f32 := broadcastInDim S1x128x1 ![1] bcast_S128_S1x128x1_1 main_v12
  let main_v14 : FVec F S65536x1x62 .f32 := broadcastInDim S65536x1x62 ![0, 2] bcast_S65536x62_S65536x1x62_0_2 main_v11
  let main_v15 : FVec F S65536x128x62 .f32 := broadcastInDim S65536x128x62 ![0, 1, 2] bcast_S65536x1x62_S65536x128x62_0_1_2 main_v14
  let main_v16 : FVec F S65536x128x62 .f32 := broadcastInDim S65536x128x62 ![0, 1, 2] bcast_S1x128x1_S65536x128x62_0_1_2 main_v13
  let main_v17 : IVec S65536x128x62 1 := cmpf .olt main_v15 main_v16
  let main_cst_4 : FVec F S_ .f32 := constant S_ .f32 0x3F800000#32
  fn_part1 (F := F) main_arg2 main_v6 main_v7 main_v11 main_v13 main_v17 main_cst_4
-- ==== Kernel.lean ====
abbrev S65536x3 : Shape := ⟨2, ![65536, 3]⟩
abbrev S65536x64 : Shape := ⟨2, ![65536, 64]⟩
abbrev S65536x192 : Shape := ⟨2, ![65536, 192]⟩
abbrev S65536x576 : Shape := ⟨2, ![65536, 576]⟩
abbrev S512x3 : Shape := ⟨2, ![512, 3]⟩
abbrev S512x64 : Shape := ⟨2, ![512, 64]⟩
abbrev S512x192 : Shape := ⟨2, ![512, 192]⟩
abbrev S512x576 : Shape := ⟨2, ![512, 576]⟩
abbrev S512x62 : Shape := ⟨2, ![512, 62]⟩
abbrev S62x62 : Shape := ⟨2, ![62, 62]⟩
abbrev S512x1 : Shape := ⟨2, ![512, 1]⟩
abbrev S512x63 : Shape := ⟨2, ![512, 63]⟩
abbrev S1x128 : Shape := ⟨2, ![1, 128]⟩
abbrev S128x128 : Shape := ⟨2, ![128, 128]⟩
abbrev S128x63 : Shape := ⟨2, ![128, 63]⟩
abbrev S128x1 : Shape := ⟨2, ![128, 1]⟩
abbrev S512x128 : Shape := ⟨2, ![512, 128]⟩
abbrev S512x256 : Shape := ⟨2, ![512, 256]⟩
abbrev S1x256 : Shape := ⟨2, ![1, 256]⟩
abbrev S512x224 : Shape := ⟨2, ![512, 224]⟩
abbrev S512x32 : Shape := ⟨2, ![512, 32]⟩
abbrev S512x240 : Shape := ⟨2, ![512, 240]⟩
abbrev S512x16 : Shape := ⟨2, ![512, 16]⟩
abbrev S512x248 : Shape := ⟨2, ![512, 248]⟩
abbrev S512x8 : Shape := ⟨2, ![512, 8]⟩
abbrev S512x252 : Shape := ⟨2, ![512, 252]⟩
abbrev S512x4 : Shape := ⟨2, ![512, 4]⟩
abbrev S512x254 : Shape := ⟨2, ![512, 254]⟩
abbrev S512x2 : Shape := ⟨2, ![512, 2]⟩
abbrev S512x255 : Shape := ⟨2, ![512, 255]⟩
abbrev S192x576 : Shape := ⟨2, ![192, 576]⟩
abbrev S1x576 : Shape := ⟨2, ![1, 576]⟩

abbrev nBuf : Space → Nat
  | .hbm => 6
  | .vmem => 12
  | .smem => 0
  | _ => 0

abbrev bufTy : (tb : Table) → Fin (tcTables nBuf tb) → BufTy
  | .hbm, ⟨0, _⟩ => ⟨S65536x3, .f32⟩
  | .hbm, ⟨1, _⟩ => ⟨S65536x3, .f32⟩
  | .hbm, ⟨2, _⟩ => ⟨S65536x64, .f32⟩
  | .hbm, ⟨3, _⟩ => ⟨S65536x64, .f32⟩
  | .hbm, ⟨4, _⟩ => ⟨S65536x192, .f32⟩
  | .hbm, ⟨5, _⟩ => ⟨S65536x576, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x192, .f32⟩
  | .local _ .vmem, ⟨9, _⟩ => ⟨S512x192, .f32⟩
  | .local _ .vmem, ⟨10, _⟩ => ⟨S512x576, .f32⟩
  | .local _ .vmem, ⟨11, _⟩ => ⟨S512x576, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "pad" => some ⊤
  | "step" => some ((127⁻¹ : ℝ) : EReal)
  | _ => none
-- ==== ReferenceIdeal.lean ====
abbrev S65536x3 : Shape := ⟨2, ![65536, 3]⟩
abbrev S65536x64 : Shape := ⟨2, ![65536, 64]⟩
abbrev S65536x63 : Shape := ⟨2, ![65536, 63]⟩
abbrev S_ : Shape := ⟨0, ![]⟩
abbrev S65536x62 : Shape := ⟨2, ![65536, 62]⟩
abbrev S65536 : Shape := ⟨1, ![65536]⟩
abbrev S65536x1 : Shape := ⟨2, ![65536, 1]⟩
abbrev S127 : Shape := ⟨1, ![127]⟩
abbrev S1 : Shape := ⟨1, ![1]⟩
abbrev S128 : Shape := ⟨1, ![128]⟩
abbrev S65536x128 : Shape := ⟨2, ![65536, 128]⟩
abbrev S65536x1x63 : Shape := ⟨3, ![65536, 1, 63]⟩
abbrev S65536x128x1 : Shape := ⟨3, ![65536, 128, 1]⟩
abbrev S65536x128x63 : Shape := ⟨3, ![65536, 128, 63]⟩
abbrev S1x1x1 : Shape := ⟨3, ![1, 1, 1]⟩
abbrev S65536x192 : Shape := ⟨2, ![65536, 192]⟩
abbrev S65536x1x3 : Shape := ⟨3, ![65536, 1, 3]⟩
abbrev S65536x192x1 : Shape := ⟨3, ![65536, 192, 1]⟩
abbrev S65536x192x3 : Shape := ⟨3, ![65536, 192, 3]⟩
abbrev S65536x576 : Shape := ⟨2, ![65536, 576]⟩

abbrev nBuf : Space → Nat
  | .hbm => 184
  | .vmem => 0
  | .smem => 0
  | _ => 0

abbrev hbmTy0_0 (i : Nat) : BufTy := match i % 128 with
  | 0 => ⟨S65536x3, .f32⟩
  | 1 => ⟨S65536x3, .f32⟩
  | 2 => ⟨S65536x64, .f32⟩
  | 3 => ⟨S65536x64, .f32⟩
  | 4 => ⟨S65536x63, .f32⟩
  | 5 => ⟨S65536x63, .f32⟩
  | 6 => ⟨S65536x63, .f32⟩
  | 7 => ⟨S_, .f32⟩
  | 8 => ⟨S65536x63, .f32⟩
  | 9 => ⟨S65536x63, .f32⟩
  | 10 => ⟨S65536x62, .f32⟩
  | 11 => ⟨S_, .f32⟩
  | 12 => ⟨S65536x62, .f32⟩
  | 13 => ⟨S65536x62, .f32⟩
  | 14 => ⟨S_, .f32⟩
  | 15 => ⟨S65536, .f32⟩
  | 16 => ⟨S65536x1, .f32⟩
  | 17 => ⟨S65536x62, .f32⟩
  | 18 => ⟨S65536x62, .f32⟩
  | 19 => ⟨S_, .f32⟩
  | 20 => ⟨S_, .f32⟩
  | 21 => ⟨S65536x62, .f32⟩
  | 22 => ⟨S65536x1, .f32⟩
  | 23 => ⟨S_, .f32⟩
  | 24 => ⟨S65536x1, .f32⟩
  | 25 => ⟨S65536x63, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S127, .f32⟩
  | 34 => ⟨S_, .f32⟩
  | 35 => ⟨S127, .f32⟩
  | 36 => ⟨S127, .f32⟩
  | 37 => ⟨S1, .f32⟩
  | 38 => ⟨S_, .f32⟩
  | 39 => ⟨S127, .f32⟩
  | 40 => ⟨S127, .f32⟩
  | 41 => ⟨S127, .f32⟩
  | 42 => ⟨S127, .f32⟩
  | 43 => ⟨S1, .f32⟩
  | 44 => ⟨S127, .f32⟩
  | 45 => ⟨S127, .f32⟩
  | 46 => ⟨S127, .f32⟩
  | 47 => ⟨S1, .f32⟩
  | 48 => ⟨S128, .f32⟩
  | 49 => ⟨S65536x128, .f32⟩
  | 50 => ⟨S65536x1x63, .f32⟩
  | 51 => ⟨S65536x128x1, .f32⟩
  | 52 => ⟨S65536x128x63, .f32⟩
  | 53 => ⟨S65536x128x63, .f32⟩
  | 54 => ⟨S65536x128x63, .i1⟩
  | 55 => ⟨S65536x128x63, .i32⟩
  | 56 => ⟨S_, .i32⟩
  | 57 => ⟨S65536x128, .i32⟩
  | 58 => ⟨S_, .i32⟩
  | 59 => ⟨S65536x128, .i32⟩
  | 60 => ⟨S65536x128, .i32⟩
  | 61 => ⟨S_, .i32⟩
  | 62 => ⟨S65536x128, .i32⟩
  | 63 => ⟨S_, .i32⟩
  | 64 => ⟨S65536x128, .i32⟩
  | 65 => ⟨S65536x128, .i32⟩
  | 66 => ⟨S65536x128, .i32⟩
  | 67 => ⟨S_, .i32⟩
  | 68 => ⟨S65536x128, .i32⟩
  | 69 => ⟨S_, .i32⟩
  | 70 => ⟨S65536x128, .i32⟩
  | 71 => ⟨S65536x128, .i32⟩
  | 72 => ⟨S65536x128, .i32⟩
  | 73 => ⟨S_, .i32⟩
  | 74 => ⟨S65536x128, .i32⟩
  | 75 => ⟨S65536x128, .i1⟩
  | 76 => ⟨S_, .i32⟩
  | 77 => ⟨S65536x128, .i32⟩
  | 78 => ⟨S65536x128, .i32⟩
  | 79 => ⟨S65536x128, .i32⟩
  | 80 => ⟨S65536x128x1, .i32⟩
  | 81 => ⟨S1, .i32⟩
  | 82 => ⟨S_, .i32⟩
  | 83 => ⟨S65536x128x1, .i32⟩
  | 84 => ⟨S65536x128x1, .i1⟩
  | 85 => ⟨S1x1x1, .i32⟩
  | 86 => ⟨S65536x128x1, .i32⟩
  | 87 => ⟨S65536x128x1, .i1⟩
  | 88 => ⟨S65536x128x1, .i1⟩
  | 89 => ⟨S_, .i1⟩
  | 90 => ⟨S65536x128, .i1⟩
  | 91 => ⟨S65536x128, .f32⟩
  | 92 => ⟨S_, .f32⟩
  | 93 => ⟨S65536x128, .f32⟩
  | 94 => ⟨S65536x128, .f32⟩
  | 95 => ⟨S_, .i32⟩
  | 96 => ⟨S65536x128, .i32⟩
  | 97 => ⟨S65536x128, .i1⟩
  | 98 => ⟨S_, .i32⟩
  | 99 => ⟨S65536x128, .i32⟩
  | 100 => ⟨S65536x128, .i32⟩
  | 101 => ⟨S65536x128, .i32⟩
  | 102 => ⟨S65536x128x1, .i32⟩
  | 103 => ⟨S1, .i32⟩
  | 104 => ⟨S_, .i32⟩
  | 105 => ⟨S65536x128x1, .i32⟩
  | 106 => ⟨S65536x128x1, .i1⟩
  | 107 => ⟨S1x1x1, .i32⟩
  | 108 => ⟨S65536x128x1, .i32⟩
  | 109 => ⟨S65536x128x1, .i1⟩
  | 110 => ⟨S65536x128x1, .i1⟩
  | 111 => ⟨S_, .i1⟩
  | 112 => ⟨S65536x128, .i1⟩
  | 113 => ⟨S65536x128, .f32⟩
  | 114 => ⟨S_, .f32⟩
  | 115 => ⟨S65536x128, .f32⟩
  | 116 => ⟨S65536x128, .f32⟩
  | 117 => ⟨S_, .i32⟩
  | 118 => ⟨S65536x128, .i32⟩
  | 119 => ⟨S65536x128, .i1⟩
  | 120 => ⟨S_, .i32⟩
  | 121 => ⟨S65536x128, .i32⟩
  | 122 => ⟨S65536x128, .i32⟩
  | 123 => ⟨S65536x128, .i32⟩
  | 124 => ⟨S65536x128x1, .i32⟩
  | 125 => ⟨S1, .i32⟩
  | 126 => ⟨S_, .i32⟩
  | 127 => ⟨S65536x128x1, .i32⟩
  | _ => ⟨S65536x3, .f32⟩

abbrev hbmTy0_1 (i : Nat) : BufTy := match i % 128 with
  | 0 => ⟨S65536x128x1, .i1⟩
  | 1 => ⟨S1x1x1, .i32⟩
  | 2 => ⟨S65536x128x1, .i32⟩
  | 3 => ⟨S65536x128x1, .i1⟩
  | 4 => ⟨S65536x128x1, .i1⟩
  | 5 => ⟨S_, .i1⟩
  | 6 => ⟨S65536x128, .i1⟩
  | 7 => ⟨S65536x128, .f32⟩
  | 8 => ⟨S_, .f32⟩
  | 9 => ⟨S65536x128, .f32⟩
  | 10 => ⟨S65536x128, .f32⟩
  | 11 => ⟨S_, .i32⟩
  | 12 => ⟨S65536x128, .i32⟩
  | 13 => ⟨S65536x128, .i1⟩
  | 14 => ⟨S_, .i32⟩
  | 15 => ⟨S65536x128, .i32⟩
  | 16 => ⟨S65536x128, .i32⟩
  | 17 => ⟨S65536x128, .i32⟩
  | 18 => ⟨S65536x128x1, .i32⟩
  | 19 => ⟨S1, .i32⟩
  | 20 => ⟨S_, .i32⟩
  | 21 => ⟨S65536x128x1, .i32⟩
  | 22 => ⟨S65536x128x1, .i1⟩
  | 23 => ⟨S1x1x1, .i32⟩
  | 24 => ⟨S65536x128x1, .i32⟩
  | 25 => ⟨S65536x128x1, .i1⟩
  | 26 => ⟨S65536x128x1, .i1⟩
  | 27 => ⟨S_, .i1⟩
  | 28 => ⟨S65536x128, .i1⟩
  | 29 => ⟨S65536x128, .f32⟩
  | 30 => ⟨S_, .f32⟩
  | 31 => ⟨S65536x128, .f32⟩
  | 32 => ⟨S65536x128, .f32⟩
  | 33 => ⟨S65536x128, .f32⟩
  | 34 => ⟨S_, .f32⟩
  | 35 => ⟨S65536x128, .f32⟩
  | 36 => ⟨S65536x128, .i1⟩
  | 37 => ⟨S_, .f32⟩
  | 38 => ⟨S65536x128, .f32⟩
  | 39 => ⟨S65536x128, .f32⟩
  | 40 => ⟨S65536x128, .f32⟩
  | 41 => ⟨S65536x128, .f32⟩
  | 42 => ⟨S65536x128, .f32⟩
  | 43 => ⟨S65536x128, .f32⟩
  | 44 => ⟨S65536x128, .f32⟩
  | 45 => ⟨S65536x192, .f32⟩
  | 46 => ⟨S65536x192, .f32⟩
  | 47 => ⟨S65536x1x3, .f32⟩
  | 48 => ⟨S65536x1x3, .f32⟩
  | 49 => ⟨S65536x192x1, .f32⟩
  | 50 => ⟨S65536x192x3, .f32⟩
  | 51 => ⟨S65536x192x3, .f32⟩
  | 52 => ⟨S65536x192x3, .f32⟩
  | 53 => ⟨S65536x192x3, .f32⟩
  | 54 => ⟨S65536x192x3, .f32⟩
  | 55 => ⟨S65536x576, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_call0_cst : Ref sig .tc := ⟨.hbm, 19, rfl⟩
abbrev main_call0_call0_v0 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_cst : Ref sig .tc := ⟨.hbm, 31, rfl⟩
abbrev main_call1_v3 : Ref sig .tc := ⟨.hbm, 32, rfl⟩
abbrev main_call1_v4 : Ref sig .tc := ⟨.hbm, 33, rfl⟩
abbrev main_call1_cst_0 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_v15 : Ref sig .tc := ⟨.hbm, 46, rfl⟩
abbrev main_call1_v16 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c : Ref sig .tc := ⟨.hbm, 56, rfl⟩
abbrev main_v24 : Ref sig .tc := ⟨.hbm, 57, rfl⟩
abbrev main_c_5 : Ref sig .tc := ⟨.hbm, 58, rfl⟩
abbrev main_v25 : Ref sig .tc := ⟨.hbm, 59, rfl⟩
abbrev main_v26 : Ref sig .tc := ⟨.hbm, 60, rfl⟩
abbrev main_c_6 : Ref sig .tc := ⟨.hbm, 61, rfl⟩
abbrev main_v27 : Ref sig .tc := ⟨.hbm, 62, rfl⟩
abbrev main_c_7 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_8 : Ref sig .tc := ⟨.hbm, 67, rfl⟩
abbrev main_v31 : Ref sig .tc := ⟨.hbm, 68, rfl⟩
abbrev main_c_9 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v35 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_cst : Ref sig .tc := ⟨.hbm, 114, rfl⟩
abbrev main_call3_v14 : Ref sig .tc := ⟨.hbm, 115, rfl⟩
abbrev main_v36 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_cst : Ref sig .tc := ⟨.hbm, 136, rfl⟩
abbrev main_call4_v14 : Ref sig .tc := ⟨.hbm, 137, rfl⟩
abbrev main_v37 : Ref sig .tc := ⟨.hbm, 138, rfl⟩
abbrev main_call5_c : Ref sig .tc := ⟨.hbm, 139, rfl⟩
abbrev main_call5_v0 : Ref sig .tc := ⟨.hbm, 140, rfl⟩
abbrev main_call5_v1 : Ref sig .tc := ⟨.hbm, 141, rfl⟩
abbrev main_call5_c_0 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_call5_v5 : Ref sig .tc := ⟨.hbm, 146, rfl⟩
abbrev main_call5_c_1 : Ref sig .tc := ⟨.hbm, 147, rfl⟩
abbrev main_call5_c_2 : Ref sig .tc := ⟨.hbm, 148, rfl⟩
abbrev main_call5_v6 : Ref sig .tc := ⟨.hbm, 149, rfl⟩
abbrev main_call5_v7 : Ref sig .tc := ⟨.hbm, 150, rfl⟩
abbrev main_call5_v8 : Ref sig .tc := ⟨.hbm, 151, rfl⟩
abbrev main_call5_v9 : Ref sig .tc := ⟨.hbm, 152, rfl⟩
abbrev main_call5_v10 : Ref sig .tc := ⟨.hbm, 153, rfl⟩
abbrev main_call5_v11 : Ref sig .tc := ⟨.hbm, 154, rfl⟩
abbrev main_call5_c_3 : Ref sig .tc := ⟨.hbm, 155, rfl⟩
abbrev main_call5_v12 : Ref sig .tc := ⟨.hbm, 156, rfl⟩
abbrev main_call5_v13 : Ref sig .tc := ⟨.hbm, 157, rfl⟩
abbrev main_call5_cst : Ref sig .tc := ⟨.hbm, 158, rfl⟩
abbrev main_call5_v14 : Ref sig .tc := ⟨.hbm, 159, rfl⟩
abbrev main_v38 : Ref sig .tc := ⟨.hbm, 160, rfl⟩
abbrev main_v39 : Ref sig .tc := ⟨.hbm, 161, rfl⟩
abbrev main_cst_10 : Ref sig .tc := ⟨.hbm, 162, rfl⟩
abbrev main_v40 : Ref sig .tc := ⟨.hbm, 163, rfl⟩
abbrev main_v41 : Ref sig .tc := ⟨.hbm, 164, rfl⟩
abbrev main_cst_11 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩

abbrev nD : Nat := 1
abbrev τ : Topo := Topo.v7x

variable {F : FTy → Type} [FloatOps F]
-- ==== Proof.Loop.lean ====
/-
  The kernel's unrolled loop over the bins, as a recursion: each of the four row chunks of a block holds the same sum.
-/
module

public import proofs.«01_k».proof.Proof.Gen.KernelIdeal.Frame
public import Idealize.ShloMosaic.Lib.Pointwise

@[expose] public section

set_option maxRecDepth 16384

noncomputable section

namespace Cert.Proof.Loop

open Cert.KernelIdeal Cert.KernelIdeal.Gen Idealize.ShloMosaic

variable {F : FTy → Type} [FloatOps F] [Named F]

theorem slices_col (i : ℕ) : S128x63.Slices ![0, i % 63] S128x1 := by
  have := Nat.mod_lt i (show 0 < 63 by omega)
  refine ⟨rfl, fun a => ?_⟩
  fin_cases a
  · simp
  · simp; omega

/-- Column `i` of a per-chunk table, repeated along the lanes. -/
def col (v : FVec F S128x63 .f32) (i : ℕ) : FVec F S128x128 .f32 :=
  broadcastTo S128x128 (extractStridedSlice S128x1 ![0, i % 63] v (slices_col i)) broadcasts_S128x1_S128x128

/-- The level clipped at knot `i`; at knot zero it is the zero array. -/
def clip (u : FVec F S128x128 .f32) (cf : FVec F S128x63 .f32) : ℕ → FVec F S128x128 .f32
  | 0 => k0_pay10
  | i + 1 => minimumf u (col cf (i + 1))

/-- The accumulator after `n` steps. -/
def accu (u : FVec F S128x128 .f32) (cf sl : FVec F S128x63 .f32) (b : FVec F S128x128 .f32) : ℕ → FVec F S128x128 .f32
  | 0 => b
  | i + 1 => addf (accu u cf sl b i) (mulf (col sl i) (subf (clip u cf (i + 1)) (clip u cf i)))

/-- The starting value of the chunk that begins at row `o`: the first midpoint, repeated along the lanes. -/
def base (o : ℕ) (v : FVec F S512x63 .f32) (h : S512x63.Slices ![o, 0] S128x1) : FVec F S128x128 .f32 :=
  broadcastTo S128x128 (shapeCast S128x1 (extractStridedSlice S128x1 ![o, 0] v h) shapeCasts_S128x1_S128x1) broadcasts_S128x1_S128x128

/-- The rows from `o` on of a per-block table. -/
def rows (o : ℕ) (v : FVec F S512x63 .f32) (h : S512x63.Slices ![o, 0] S128x63) : FVec F S128x63 .f32 :=
  extractStridedSlice S128x63 ![o, 0] v h

theorem slices_base (k : Fin 4) : S512x63.Slices ![128 * k.val, 0] S128x1 := by
  refine ⟨rfl, fun a => ?_⟩
  fin_cases a
  · show 128 * k.val + 128 ≤ 512; omega
  · show 0 + 1 ≤ 63; omega

theorem slices_rows (k : Fin 4) : S512x63.Slices ![128 * k.val, 0] S128x63 := by
  refine ⟨rfl, fun a => ?_⟩
  fin_cases a
  · show 128 * k.val + 128 ≤ 512; omega
  · show 0 + 63 ≤ 63; omega

/-- The samples of the `k`-th chunk of rows. -/
def chunk (z w : FVec F S512x64 .f32) (k : Fin 4) : FVec F S128x128 .f32 :=
  accu k0_pay6 (rows (128 * k.val) (k0_pay4 w) (slices_rows k)) (rows (128 * k.val) (k0_pay5 z w) (slices_rows k))
    (base (128 * k.val) (k0_pay3 z) (slices_base k)) 62

variable (x0 x1 : Vec F S512x3 .f32) (x2 x3 : Vec F S512x64 .f32)

set_option maxHeartbeats 2000000 in
theorem chunk0 : k0_pay163 x0 x1 x2 x3 = chunk (View.ld x2 r0_0) (View.ld x3 r0_0) 0 := rfl

set_option maxHeartbeats 2000000 in
theorem chunk1 : k0_pay166 x0 x1 x2 x3 = chunk (View.ld x2 r0_0) (View.ld x3 r0_0) 1 := rfl

set_option maxHeartbeats 2000000 in
theorem chunk2 : k0_pay169 x0 x1 x2 x3 = chunk (View.ld x2 r0_0) (View.ld x3 r0_0) 2 := rfl

/-- The samples of a block, its four chunks stacked. -/
def samples (z w : FVec F S512x64 .f32) : FVec F S512x128 .f32 :=
  concatenate S512x128 0 [⟨S128x128, chunk z w 0⟩, ⟨S128x128, chunk z w 1⟩, ⟨S128x128, chunk z w 2⟩, ⟨S128x128, chunk z w 3⟩]
    concatenates_S128x128_S128x128_S128x128_S128x128_S512x128_d0

/-- The 256 columns the merge starts from: the ascending z values, the padding, the descending samples. -/
def joined (z w : FVec F S512x64 .f32) : FVec F S512x256 .f32 :=
  concatenate S512x256 1 [⟨S512x64, z⟩, ⟨S512x64, broadcast S512x64 (Named.named κ "pad" 0x7F61B1E6#32)⟩, ⟨S512x128, samples z w⟩]
    concatenates_S512x64_S512x64_S512x128_S512x256_d1

/-! ## The merge network -/

/-- The columns moved `k` places down, those that fall off put back at the end. -/
def roll (k m : ℕ) (s : FVec F S512x256 .f32) (h1 : S512x256.Slices ![0, k] ⟨2, ![512, m]⟩) (h2 : S512x256.Slices ![0, 0] ⟨2, ![512, k]⟩)
    (h : Shape.Concatenates [⟨2, ![512, m]⟩, ⟨2, ![512, k]⟩] S512x256 1) : FVec F S512x256 .f32 :=
  concatenate S512x256 1 [⟨⟨2, ![512, m]⟩, extractStridedSlice ⟨2, ![512, m]⟩ ![0, k] s h1⟩,
    ⟨⟨2, ![512, k]⟩, extractStridedSlice ⟨2, ![512, k]⟩ ![0, 0] s h2⟩] h

/-- The columns whose number has bit `d`. -/
def mask (d : ℕ) : IVec S512x256 1 :=
  broadcastTo S512x256 (shapeCast S1x256 (cmpi .ne (andi (iota .tc S1x256 32 [1] iota_S1x256_d1_w32) (broadcast S1x256 (BitVec.ofNat 32 d)))
    (broadcast S1x256 0#32)) shapeCasts_S1x256_S1x256) broadcasts_S1x256_S512x256

/-- One compare-exchange stage, from the columns `d` places up and `d` places down. -/
def step (d : ℕ) (s fwd bwd : FVec F S512x256 .f32) : FVec F S512x256 .f32 :=
  select (mask d) (maximumf s (select (mask d) bwd fwd)) (minimumf s (select (mask d) bwd fwd))

def st128 (s : FVec F S512x256 .f32) : FVec F S512x256 .f32 :=
  step 128 s (roll 128 128 s slices_S512x256_o0_128_S512x128 slices_S512x256_o0_0_S512x128 concatenates_S512x128_S512x128_S512x256_d1)
    (roll 128 128 s slices_S512x256_o0_128_S512x128 slices_S512x256_o0_0_S512x128 concatenates_S512x128_S512x128_S512x256_d1)

def st64 (s : FVec F S512x256 .f32) : FVec F S512x256 .f32 :=
  step 64 s (roll 64 192 s slices_S512x256_o0_64_S512x192 slices_S512x256_o0_0_S512x64 concatenates_S512x192_S512x64_S512x256_d1)
    (roll 192 64 s slices_S512x256_o0_192_S512x64 slices_S512x256_o0_0_S512x192 concatenates_S512x64_S512x192_S512x256_d1)

def st32 (s : FVec F S512x256 .f32) : FVec F S512x256 .f32 :=
  step 32 s (roll 32 224 s slices_S512x256_o0_32_S512x224 slices_S512x256_o0_0_S512x32 concatenates_S512x224_S512x32_S512x256_d1)
    (roll 224 32 s slices_S512x256_o0_224_S512x32 slices_S512x256_o0_0_S512x224 concatenates_S512x32_S512x224_S512x256_d1)

def st16 (s : FVec F S512x256 .f32) : FVec F S512x256 .f32 :=
  step 16 s (roll 16 240 s slices_S512x256_o0_16_S512x240 slices_S512x256_o0_0_S512x16 concatenates_S512x240_S512x16_S512x256_d1)
    (roll 240 16 s slices_S512x256_o0_240_S512x16 slices_S512x256_o0_0_S512x240 concatenates_S512x16_S512x240_S512x256_d1)

def st8 (s : FVec F S512x256 .f32) : FVec F S512x256 .f32 :=
  step 8 s (roll 8 248 s slices_S512x256_o0_8_S512x248 slices_S512x256_o0_0_S512x8 concatenates_S512x248_S512x8_S512x256_d1)
    (roll 248 8 s slices_S512x256_o0_248_S512x8 slices_S512x256_o0_0_S512x248 concatenates_S512x8_S512x248_S512x256_d1)

def st4 (s : FVec F S512x256 .f32) : FVec F S512x256 .f32 :=
  step 4 s (roll 4 252 s slices_S512x256_o0_4_S512x252 slices_S512x256_o0_0_S512x4 concatenates_S512x252_S512x4_S512x256_d1)
    (roll 252 4 s slices_S512x256_o0_252_S512x4 slices_S512x256_o0_0_S512x252 concatenates_S512x4_S512x252_S512x256_d1)

def st2 (s : FVec F S512x256 .f32) : FVec F S512x256 .f32 :=
  step 2 s (roll 2 254 s slices_S512x256_o0_2_S512x254 slices_S512x256_o0_0_S512x2 concatenates_S512x254_S512x2_S512x256_d1)
    (roll 254 2 s slices_S512x256_o0_254_S512x2 slices_S512x256_o0_0_S512x254 concatenates_S512x2_S512x254_S512x256_d1)

def st1 (s : FVec F S512x256 .f32) : FVec F S512x256 .f32 :=
  step 1 s (roll 1 255 s slices_S512x256_o0_1_S512x255 slices_S512x256_o0_0_S512x1 concatenates_S512x255_S512x1_S512x256_d1)
    (roll 255 1 s slices_S512x256_o0_255_S512x1 slices_S512x256_o0_0_S512x255 concatenates_S512x1_S512x255_S512x256_d1)

/-- The merged columns, the first 192 of the 256. -/
def merged (s : FVec F S512x256 .f32) : FVec F S512x192 .f32 :=
  extractStridedSlice S512x192 ![0, 0] (st1 (st2 (st4 (st8 (st16 (st32 (st64 (st128 s)))))))) slices_S512x256_o0_0_S512x192

theorem first_eq : k0_pay176 x0 x1 x2 x3 = st128 (joined (View.ld x2 r0_0) (View.ld x3 r0_0)) := by
  unfold k0_pay176
  rw [chunk0, chunk1, chunk2]
  rfl

set_option maxHeartbeats 2000000 in
theorem second_eq : k0_pay180 x0 x1 x2 x3 = st16 (st32 (st64 (k0_pay176 x0 x1 x2 x3))) := rfl

set_option maxHeartbeats 2000000 in
theorem third_eq : k0_pay184 x0 x1 x2 x3 = st2 (st4 (st8 (k0_pay180 x0 x1 x2 x3))) := rfl

set_option maxHeartbeats 2000000 in
theorem merged_eq : k0_pay149 (k0_pay184 x0 x1 x2 x3) (k0_pay185 x0 x1 x2 x3) (k0_pay186 x0 x1 x2 x3) (k0_pay187 x0 x1 x2 x3)
    = merged (joined (View.ld x2 r0_0) (View.ld x3 r0_0)) := by
  unfold merged
  rw [← first_eq x0 x1, ← second_eq, ← third_eq]
  rfl

end Cert.Proof.Loop

end
-- ==== Proof.Sampling.lean ====
/-
  The inverse of a piecewise linear distribution function, on real numbers: the kernel adds, over the bins, the slope
  times the part of the bin below the level; the reference counts the knots at or below the level and interpolates
  inside the bin found. The two agree where every bin has mass and no level lies strictly inside a short bin.
-/
module

public import Idealize.ShloMosaic.Lib.Pointwise

@[expose] public section

noncomputable section

namespace Cert.Proof.Sampling

open Finset

/-- The mass before knot `k`. -/
def cum (p : ℕ → ℝ) (k : ℕ) : ℝ := ∑ i ∈ range k, p i

/-- Bin `i`'s rise over its mass, the mass kept at or above `ε`. -/
def slope (b p : ℕ → ℝ) (ε : ℝ) (i : ℕ) : ℝ := (b (i + 1) - b i) / max (cum p (i + 1) - cum p i) ε

/-- The kernel's sample at level `u`, over the first `n` bins. -/
def piece (b p : ℕ → ℝ) (ε u : ℝ) (n : ℕ) : ℝ :=
  b 0 + ∑ i ∈ range n, slope b p ε i * (min u (cum p (i + 1)) - min u (cum p i))

/-- How many of the 63 knots lie at or below the level. -/
def below (p : ℕ → ℝ) (u : ℝ) : ℕ := ((range 63).filter fun k => cum p k ≤ u).card

/-- The mass between two knots, one where that is under the threshold. -/
def width (p : ℕ → ℝ) (short : ℝ) (lo hi : ℕ) : ℝ :=
  if cum p hi - cum p lo < short then 1 else cum p hi - cum p lo

/-- The reference's sample at level `u`. -/
def lookup (b p : ℕ → ℝ) (short u : ℝ) : ℝ :=
  b (below p u - 1) + (u - cum p (below p u - 1)) / width p short (below p u - 1) (min 62 (below p u))
    * (b (min 62 (below p u)) - b (below p u - 1))

theorem cum_succ (p : ℕ → ℝ) (k : ℕ) : cum p (k + 1) = cum p k + p k := sum_range_succ ..

theorem cum_mono {p : ℕ → ℝ} (hp : ∀ i < 62, 0 < p i) : ∀ {j : ℕ} (i : ℕ), i ≤ j → j ≤ 62 → cum p i ≤ cum p j := by
  intro j
  induction j with
  | zero => intro i h _; rw [Nat.le_zero.1 h]
  | succ j ih =>
    intro i h hj
    rcases Nat.lt_or_eq_of_le h with h | h
    · have := ih i (by omega) (by omega)
      rw [cum_succ]
      have := hp j (by omega)
      linarith
    · rw [h]

theorem piece_succ (b p : ℕ → ℝ) (ε u : ℝ) (n : ℕ) :
    piece b p ε u (n + 1) = piece b p ε u n + slope b p ε n * (min u (cum p (n + 1)) - min u (cum p n)) := by
  rw [piece, sum_range_succ, ← add_assoc]; rfl

theorem slope_eq {b p : ℕ → ℝ} {ε : ℝ} {i : ℕ} (h : ε ≤ p i) : slope b p ε i = (b (i + 1) - b i) / p i := by
  rw [slope, cum_succ, add_sub_cancel_left, max_eq_left h]

/-- Up to a knot at or below the level the kernel's sum is the knot's value. -/
theorem piece_below {b p : ℕ → ℝ} {ε u : ℝ} (hε : 0 < ε) (hp : ∀ i < 62, ε ≤ p i) :
    ∀ {n : ℕ}, n ≤ 62 → cum p n ≤ u → piece b p ε u n = b n := by
  intro n
  induction n with
  | zero => intro _ _; simp [piece]
  | succ n ih =>
    intro hn hu
    have hc : cum p n ≤ u := le_trans (cum_mono (fun i hi => lt_of_lt_of_le hε (hp i hi)) n (by omega) hn) hu
    have hpos : 0 < p n := lt_of_lt_of_le hε (hp n (by omega))
    rw [piece_succ, ih (by omega) hc, min_eq_right hu, min_eq_right hc, slope_eq (hp n (by omega)), cum_succ,
      add_sub_cancel_left, div_mul_cancel₀ _ hpos.ne']
    ring

/-- Bins past the level add nothing. -/
theorem piece_above {b p : ℕ → ℝ} {ε u : ℝ} (hε : 0 < ε) (hp : ∀ i < 62, ε ≤ p i) {k : ℕ} (hk : u ≤ cum p k) :
    ∀ {n : ℕ}, k ≤ n → n ≤ 62 → piece b p ε u n = piece b p ε u k := by
  intro n
  induction n with
  | zero => intro h _; rw [Nat.le_zero.1 h]
  | succ n ih =>
    intro h hn
    rcases Nat.lt_or_eq_of_le h with h | h
    · have hpos : ∀ i < 62, 0 < p i := fun i hi => lt_of_lt_of_le hε (hp i hi)
      have h1 : u ≤ cum p n := le_trans hk (cum_mono hpos k (by omega) (by omega))
      have h2 : u ≤ cum p (n + 1) := le_trans hk (cum_mono hpos k (by omega) hn)
      rw [piece_succ, ih (by omega) (by omega), min_eq_left h1, min_eq_left h2, sub_self, mul_zero, add_zero]
    · rw [← h]

/-- Where the level lies from knot `k` on and before the next, `k + 1` knots lie at or below it. -/
theorem below_eq {p : ℕ → ℝ} {u : ℝ} (hp : ∀ i < 62, 0 < p i) {k : ℕ} (hk : k ≤ 62) (h0 : cum p k ≤ u)
    (h1 : ∀ j, k < j → j ≤ 62 → u < cum p j) : below p u = k + 1 := by
  have : (range 63).filter (fun k => cum p k ≤ u) = range (k + 1) := by
    ext j
    simp only [mem_filter, mem_range]
    constructor
    · rintro ⟨hj, hle⟩
      by_contra hc
      exact absurd (h1 j (by omega) (by omega)) (not_lt.2 hle)
    · intro hj
      exact ⟨by omega, le_trans (cum_mono hp j (by omega) hk) h0⟩
  rw [below, this, card_range]

/-- A level in `[0, 1)` lies in one bin. -/
theorem exists_bin {p : ℕ → ℝ} {u : ℝ} (h0 : 0 ≤ u) (h1 : u < cum p 62) :
    ∃ k < 62, cum p k ≤ u ∧ u < cum p (k + 1) := by
  by_contra hc
  push Not at hc
  have : ∀ n ≤ 62, cum p n ≤ u := by
    intro n
    induction n with
    | zero => intro _; simpa [cum] using h0
    | succ n ih => intro hn; exact hc n (by omega) (ih (by omega))
  exact absurd (this 62 le_rfl) (not_le.2 h1)

theorem piece_eq_lookup {b p : ℕ → ℝ} {ε short u : ℝ} (hε : 0 < ε) (hp : ∀ i < 62, ε ≤ p i) (hone : cum p 62 = 1)
    (hu0 : 0 ≤ u) (hu1 : u ≤ 1)
    (hin : ∀ i < 62, cum p i < u → u < min (cum p (i + 1)) 1 → short ≤ cum p (i + 1) - cum p i) :
    piece b p ε u 62 = lookup b p short u := by
  have hpos : ∀ i < 62, 0 < p i := fun i hi => lt_of_lt_of_le hε (hp i hi)
  rcases lt_or_eq_of_le hu1 with hu | hu
  · obtain ⟨k, hk, h0, h1⟩ := exists_bin hu0 (hone ▸ hu)
    have hb : below p u = k + 1 := below_eq hpos (by omega) h0
      fun j hj hj' => lt_of_lt_of_le h1 (cum_mono hpos (k + 1) hj hj')
    have hbin : piece b p ε u 62 = b k + (b (k + 1) - b k) / p k * (u - cum p k) := by
      rw [piece_above hε hp h1.le (n := 62) hk le_rfl, piece_succ, piece_below hε hp (by omega) h0, slope_eq (hp k hk),
        min_eq_left h1.le, min_eq_right h0]
    rw [hbin, lookup, hb, Nat.add_sub_cancel, Nat.min_eq_right (by omega : k + 1 ≤ 62)]
    rcases lt_or_eq_of_le h0 with h0 | h0
    · have hw := hin k hk h0 (lt_min h1 hu)
      rw [width, if_neg (not_lt.2 hw), cum_succ, add_sub_cancel_left]
      ring
    · rw [h0, sub_self, mul_zero, zero_div, zero_mul]
  · have hb : below p u = 63 := below_eq hpos (k := 62) le_rfl (by rw [hone, hu]) (fun j hj hj' => by omega)
    rw [piece_below hε hp le_rfl (by rw [hone, hu]), lookup, hb]
    norm_num

/-- Each bin's part below the level grows with the level. -/
theorem part_mono {c c' u u' : ℝ} (hc : c ≤ c') (hu : u ≤ u') : min u c' - min u c ≤ min u' c' - min u' c := by
  rcases le_total u c with h1 | h1 <;> rcases le_total u' c with h2 | h2 <;> rcases le_total u c' with h3 | h3 <;>
    rcases le_total u' c' with h4 | h4 <;> simp only [min_eq_left, min_eq_right, *] <;> linarith

/-- The kernel's samples ascend with the level. -/
theorem piece_mono {b p : ℕ → ℝ} {ε u u' : ℝ} (hε : 0 < ε) (hp : ∀ i < 62, ε ≤ p i) (hb : ∀ i < 62, b i ≤ b (i + 1))
    (hu : u ≤ u') : piece b p ε u 62 ≤ piece b p ε u' 62 := by
  unfold piece
  refine add_le_add le_rfl (sum_le_sum fun i hi => mul_le_mul_of_nonneg_left (part_mono ?_ hu) ?_)
  · have hi := mem_range.1 hi
    exact cum_mono (fun i hi => lt_of_lt_of_le hε (hp i hi)) i (by omega) (by omega)
  · exact div_nonneg (sub_nonneg.2 (hb i (mem_range.1 hi))) (le_trans hε.le (le_max_right _ _))

end Cert.Proof.Sampling

end
-- ==== Proof.Ray.lean ====
/-
  One ray: what the precondition says of its z values and weights, in real numbers; and the program's constants as
  real numbers.
-/
module

public import proofs.«01_k».proof.Proof.Sampling
public import Idealize.ShloMosaic.Lib.Pointwise
public import Idealize.ShloMosaic.PureOps.IdealRules

@[expose] public section

set_option maxRecDepth 16384

noncomputable section

namespace Cert.Proof.Ray

open Idealize.ShloMosaic Finset Cert.Proof.Sampling

/-- The least mass a bin may have. -/
def eps : ℝ := (Ideal.ofBits .f32 0x0DA24260#32).toReal

/-- What is added to a weight, and the width under which a bin is short. -/
def short : ℝ := (Ideal.ofBits .f32 0x3727C5AC#32).toReal

theorem ofBits_eps : Ideal.ofBits .f32 0x0DA24260#32 = (eps : EReal) := by
  unfold eps
  simp [Ideal.ofBits, Ideal.ieee, -EReal.coe_mul]

theorem eps_pos : 0 < eps := by
  unfold eps
  simp [Ideal.ofBits, Ideal.ieee, -EReal.coe_mul]

theorem ofBits_short : Ideal.ofBits .f32 0x3727C5AC#32 = (short : EReal) := by
  unfold short
  simp [Ideal.ofBits, Ideal.ieee, -EReal.coe_mul]

theorem short_pos : 0 < short := by
  unfold short
  simp [Ideal.ofBits, Ideal.ieee, -EReal.coe_mul]

theorem ofBits_half : Ideal.ofBits .f32 0x3F000000#32 = ((1 / 2 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

/-- The midpoints of the z values. -/
def mid (z : ℕ → ℝ) (i : ℕ) : ℝ := 1 / 2 * (z (i + 1) + z i)

/-- The bins' masses. -/
def mass (w : ℕ → ℝ) (i : ℕ) : ℝ := w i / ∑ j ∈ range 62, w j

/-- The level of sample `j`. -/
def level (j : ℕ) : ℝ := (j : ℝ) / 127

/-- A ray the two programs agree on: its z values `z` are real and ascend, its padded weights `w` are real with a sum
    that is not zero, every bin has mass, and no level lies strictly inside a short bin. -/
structure Sound (zs ws : Fin 64 → EReal) (z w : ℕ → ℝ) : Prop where
  hz : ∀ i : Fin 64, zs i = (z i : EReal)
  sorted : ∀ i < 63, z i ≤ z (i + 1)
  hw : ∀ i : Fin 62, ws ⟨i.val + 1, by omega⟩ + Ideal.ofBits .f32 0x3727C5AC#32 = (w i : EReal)
  total : ∑ j ∈ range 62, w j ≠ 0
  full : ∀ i < 62, eps ≤ mass w i
  wide : ∀ j < 128, ∀ i < 62, cum (mass w) i < level j → level j < min (cum (mass w) (i + 1)) 1 →
    short ≤ cum (mass w) (i + 1) - cum (mass w) i

theorem cum_mass (w : ℕ → ℝ) (k : ℕ) : cum (mass w) k = (∑ i ∈ range k, w i) / ∑ j ∈ range 62, w j := by
  rw [cum, sum_div]; rfl

theorem cum_mass_last {w : ℕ → ℝ} (h : ∑ j ∈ range 62, w j ≠ 0) : cum (mass w) 62 = 1 := by
  rw [cum_mass, div_self h]

theorem level_nonneg (j : ℕ) : 0 ≤ level j := div_nonneg (Nat.cast_nonneg _) (by norm_num)

theorem level_le_one {j : ℕ} (h : j < 128) : level j ≤ 1 := by
  rw [level, div_le_one (by norm_num)]
  exact_mod_cast Nat.le_of_lt_succ h

theorem level_mono {i j : ℕ} (h : i ≤ j) : level i ≤ level j :=
  div_le_div_of_nonneg_right (by exact_mod_cast h) (by norm_num)

theorem mid_mono {z : ℕ → ℝ} (h : ∀ i < 63, z i ≤ z (i + 1)) : ∀ i < 62, mid z i ≤ mid z (i + 1) := by
  intro i hi
  have h1 := h i (by omega)
  have h2 := h (i + 1) (by omega)
  unfold mid
  linarith

/-- Sample `j` of the kernel, as a real number. -/
def sample (z w : ℕ → ℝ) (j : ℕ) : ℝ := piece (mid z) (mass w) eps (level j) 62

theorem sample_eq {zs ws : Fin 64 → EReal} {z w : ℕ → ℝ} (h : Sound zs ws z w) {j : ℕ} (hj : j < 128) :
    sample z w j = lookup (mid z) (mass w) short (level j) :=
  piece_eq_lookup eps_pos h.full (cum_mass_last h.total) (level_nonneg j) (level_le_one hj) (h.wide j hj)

theorem sample_mono {zs ws : Fin 64 → EReal} {z w : ℕ → ℝ} (h : Sound zs ws z w) {i j : ℕ} (hij : i ≤ j) :
    sample z w i ≤ sample z w j :=
  piece_mono eps_pos h.full (mid_mono h.sorted) (level_mono hij)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem coe_min (x y : ℝ) : ((min x y : ℝ) : EReal) = min (x : EReal) (y : EReal) := EReal.coe_strictMono.monotone.map_min
theorem coe_max (x y : ℝ) : ((max x y : ℝ) : EReal) = max (x : EReal) (y : EReal) := EReal.coe_strictMono.monotone.map_max

theorem div_real (x : ℝ) {y : ℝ} (h : y ≠ 0) : Ideal.div (x : EReal) (y : EReal) = ((x / y : ℝ) : EReal) := by
  rw [Ideal.div_coe h, ← EReal.coe_mul, mul_one_div]

end Cert.Proof.Ray

end
-- ==== Proof.Bitonic.lean ====
/-
  The bitonic merge, on plain functions of a natural index: eight compare-exchange stages at distances 128, 64, …, 1
  take a sequence of 256 entries that first ascends and then descends to the ascending sequence of the same entries.
  Sortedness is shown one threshold at a time: "entry is at least `t`" turns minimum and maximum into "and" and "or",
  and an ascending-then-descending sequence into one interval of trues.
-/
module

public import Idealize.ShloMosaic.Lib.Pointwise

@[expose] public section

noncomputable section

namespace Cert.Proof.Bitonic

/-- One compare-exchange stage at distance `d`: the upper partner takes the maximum, the lower one the minimum. -/
def stage {α : Type*} [Max α] [Min α] (d : ℕ) (f : ℕ → α) (l : ℕ) : α :=
  if (l / d) % 2 = 1 then max (f l) (f (l - d)) else min (f l) (f (l + d))

/-- The stages at distances `2^(k-1)`, …, `2`, `1`, in this order. -/
def stages {α : Type*} [Max α] [Min α] : ℕ → (ℕ → α) → ℕ → α
  | 0, f => f
  | k + 1, f => stages k (stage (2 ^ k) f)

/-! ## One threshold -/

/-- On the `n` places from `a` on, `b` is true exactly inside one interval, or exactly outside one. -/
def Arc (b : ℕ → Bool) (a n : ℕ) : Prop :=
  ∃ p q, p ≤ q ∧ q ≤ n ∧ ((∀ i < n, (b (a + i) = true ↔ p ≤ i ∧ i < q)) ∨ (∀ i < n, (b (a + i) = false ↔ p ≤ i ∧ i < q)))

/-- On the `n` places from `a` on, `b` never falls back from true to false. -/
def Rises (b : ℕ → Bool) (a n : ℕ) : Prop :=
  ∀ i j, i ≤ j → j < n → b (a + i) = true → b (a + j) = true

/-- The half-cleaner: after one exchange of the two halves, one half is constant and the other is again an arc. -/
theorem halves (b lo hi : ℕ → Bool) (a a' n : ℕ) (hb : Arc b a (n + n))
    (hlo : ∀ i < n, lo (a + i) = (b (a + i) && b (a + (n + i)))) (hhi : ∀ i < n, hi (a' + i) = (b (a + i) || b (a + (n + i)))) :
    (Arc lo a n ∧ ∀ i < n, hi (a' + i) = true) ∨ ((∀ i < n, lo (a + i) = false) ∧ Arc hi a' n) := by
  obtain ⟨p, q, hpq, hq, h⟩ := hb
  have key : ∀ (c : ℕ → Bool), (∀ i < n + n, (c i = true ↔ p ≤ i ∧ i < q)) → ∀ i < n,
      ((c i = true ↔ p ≤ i ∧ i < q) ∧ (c (n + i) = true ↔ p ≤ n + i ∧ n + i < q)) :=
    fun c hc i hi => ⟨hc i (by omega), hc (n + i) (by omega)⟩
  rcases h with h | h
  · have k := key (fun i => b (a + i)) h
    rcases Nat.lt_or_ge n q with h1 | h1
    · rcases Nat.lt_or_ge p n with h2 | h2
      · rcases Nat.lt_or_ge (q - n) (p + 1) with h3 | h3
        · refine Or.inr ⟨fun i hi => ?_, q - n, p, by omega, by omega, Or.inr fun i hi => ?_⟩
          · rw [hlo i hi, Bool.and_eq_false_iff, ← Bool.not_eq_true, ← Bool.not_eq_true, (k i hi).1, (k i hi).2]; omega
          · rw [hhi i hi, Bool.or_eq_false_iff, ← Bool.not_eq_true, ← Bool.not_eq_true, (k i hi).1, (k i hi).2]; omega
        · refine Or.inl ⟨⟨p, q - n, by omega, by omega, Or.inl fun i hi => ?_⟩, fun i hi => ?_⟩
          · rw [hlo i hi, Bool.and_eq_true, (k i hi).1, (k i hi).2]; omega
          · rw [hhi i hi, Bool.or_eq_true, (k i hi).1, (k i hi).2]; omega
      · refine Or.inr ⟨fun i hi => ?_, p - n, q - n, by omega, by omega, Or.inl fun i hi => ?_⟩
        · rw [hlo i hi, Bool.and_eq_false_iff, ← Bool.not_eq_true, ← Bool.not_eq_true, (k i hi).1, (k i hi).2]; omega
        · rw [hhi i hi, Bool.or_eq_true, (k i hi).1, (k i hi).2]; omega
    · refine Or.inr ⟨fun i hi => ?_, p, q, hpq, h1, Or.inl fun i hi => ?_⟩
      · rw [hlo i hi, Bool.and_eq_false_iff, ← Bool.not_eq_true, ← Bool.not_eq_true, (k i hi).1, (k i hi).2]; omega
      · rw [hhi i hi, Bool.or_eq_true, (k i hi).1, (k i hi).2]; omega
  · have k := key (fun i => !b (a + i)) (fun i hi => by rw [← h i hi]; simp)
    simp only [Bool.not_eq_true'] at k
    rcases Nat.lt_or_ge n q with h1 | h1
    · rcases Nat.lt_or_ge p n with h2 | h2
      · rcases Nat.lt_or_ge (q - n) (p + 1) with h3 | h3
        · refine Or.inl ⟨⟨q - n, p, by omega, by omega, Or.inl fun i hi => ?_⟩, fun i hi => ?_⟩
          · rw [hlo i hi, Bool.and_eq_true, ← Bool.not_eq_false, ← Bool.not_eq_false, (k i hi).1, (k i hi).2]; omega
          · rw [hhi i hi, Bool.or_eq_true, ← Bool.not_eq_false, ← Bool.not_eq_false, (k i hi).1, (k i hi).2]; omega
        · refine Or.inr ⟨fun i hi => ?_, p, q - n, by omega, by omega, Or.inr fun i hi => ?_⟩
          · rw [hlo i hi, Bool.and_eq_false_iff, (k i hi).1, (k i hi).2]; omega
          · rw [hhi i hi, Bool.or_eq_false_iff, (k i hi).1, (k i hi).2]; omega
      · refine Or.inl ⟨⟨p - n, q - n, by omega, by omega, Or.inr fun i hi => ?_⟩, fun i hi => ?_⟩
        · rw [hlo i hi, Bool.and_eq_false_iff, (k i hi).1, (k i hi).2]; omega
        · rw [hhi i hi, Bool.or_eq_true, ← Bool.not_eq_false, ← Bool.not_eq_false, (k i hi).1, (k i hi).2]; omega
    · refine Or.inl ⟨⟨p, q, hpq, h1, Or.inr fun i hi => ?_⟩, fun i hi => ?_⟩
      · rw [hlo i hi, Bool.and_eq_false_iff, (k i hi).1, (k i hi).2]; omega
      · rw [hhi i hi, Bool.or_eq_true, ← Bool.not_eq_false, ← Bool.not_eq_false, (k i hi).1, (k i hi).2]; omega

/-- A stage at distance `n`, read on the lower half of an aligned block of `2n` places. -/
theorem stage_lo {α : Type*} [Max α] [Min α] (f : ℕ → α) (n a i : ℕ) (ha : a % (2 * n) = 0) (hi : i < n) :
    stage n f (a + i) = min (f (a + i)) (f (a + (n + i))) := by
  obtain ⟨c, rfl⟩ := Nat.dvd_of_mod_eq_zero ha
  have h : (2 * n * c + i) / n = 2 * c := by
    rw [show 2 * n * c + i = i + n * (2 * c) by ring, Nat.add_mul_div_left _ _ (by omega), Nat.div_eq_of_lt hi, Nat.zero_add]
  rw [stage, h, if_neg (by omega), show 2 * n * c + i + n = 2 * n * c + (n + i) by ring]

/-- A stage at distance `n`, read on the upper half of an aligned block of `2n` places. -/
theorem stage_hi {α : Type*} [Max α] [Min α] (f : ℕ → α) (n a i : ℕ) (ha : a % (2 * n) = 0) (hi : i < n) :
    stage n f (a + n + i) = max (f (a + (n + i))) (f (a + i)) := by
  obtain ⟨c, rfl⟩ := Nat.dvd_of_mod_eq_zero ha
  have h : (2 * n * c + n + i) / n = 2 * c + 1 := by
    rw [show 2 * n * c + n + i = i + n * (2 * c + 1) by ring, Nat.add_mul_div_left _ _ (by omega), Nat.div_eq_of_lt hi, Nat.zero_add]
  rw [stage, h, if_pos (by omega), show 2 * n * c + n + i - n = 2 * n * c + i by omega, show 2 * n * c + n + i = 2 * n * c + (n + i) by ring]

theorem aligned_half (a n : ℕ) (ha : a % (2 * n) = 0) : a % n = 0 ∧ (a + n) % n = 0 := by
  obtain ⟨c, rfl⟩ := Nat.dvd_of_mod_eq_zero ha
  constructor
  · rw [show 2 * n * c = n * (2 * c) by ring]; exact Nat.mul_mod_right _ _
  · rw [show 2 * n * c + n = n * (2 * c + 1) by ring]; exact Nat.mul_mod_right _ _

/-- Splitting a place of a block of `2n` into the two halves. -/
theorem two_halves {P : ℕ → Prop} (a n : ℕ) (hlo : ∀ i < n, P (a + i)) (hhi : ∀ i < n, P (a + n + i)) : ∀ i < 2 * n, P (a + i) := by
  intro i hi
  rcases Nat.lt_or_ge i n with h | h
  · exact hlo i h
  · have := hhi (i - n) (by omega)
    rwa [show a + n + (i - n) = a + i by omega] at this

/-- A constant block stays so through the stages. -/
theorem stages_const (v : Bool) : ∀ (k : ℕ) (b : ℕ → Bool) (a : ℕ), a % 2 ^ k = 0 → (∀ i < 2 ^ k, b (a + i) = v) →
    ∀ i < 2 ^ k, stages k b (a + i) = v
  | 0, b, a, _, h => h
  | k + 1, b, a, ha, h => by
    rw [pow_succ'] at ha h ⊢
    have hal := aligned_half a _ ha
    refine two_halves (P := fun x => stages k (stage (2 ^ k) b) x = v) a _ (stages_const v k _ a hal.1 fun i hi => ?_) (stages_const v k _ (a + 2 ^ k) hal.2 fun i hi => ?_)
    · rw [stage_lo b _ a i ha hi, h i (by omega), h (2 ^ k + i) (by omega)]; exact min_self v
    · rw [stage_hi b _ a i ha hi, h i (by omega), h (2 ^ k + i) (by omega)]; exact max_self v

/-- An arc on an aligned block of `2^k` places rises after the `k` stages. -/
theorem stages_rises : ∀ (k : ℕ) (b : ℕ → Bool) (a : ℕ), a % 2 ^ k = 0 → Arc b a (2 ^ k) → Rises (stages k b) a (2 ^ k)
  | 0, b, a, _, _ => fun i j hij hj h => by
    obtain rfl : i = j := by simp at hj; omega
    exact h
  | k + 1, b, a, ha, h => by
    rw [pow_succ'] at ha h ⊢
    have hal := aligned_half a _ ha
    rcases halves b (stage (2 ^ k) b) (stage (2 ^ k) b) a (a + 2 ^ k) (2 ^ k) (by rwa [← two_mul])
        (fun i hi => stage_lo b _ a i ha hi) (fun i hi => (stage_hi b _ a i ha hi).trans (max_comm _ _)) with ⟨h1, h2⟩ | ⟨h1, h2⟩
    · have r := stages_rises k _ a hal.1 h1
      have t := stages_const true k _ (a + 2 ^ k) hal.2 h2
      intro i j hij hj hi
      rcases Nat.lt_or_ge j (2 ^ k) with hj' | hj'
      · exact r i j hij hj' hi
      · have := t (j - 2 ^ k) (by omega)
        rwa [show a + 2 ^ k + (j - 2 ^ k) = a + j by omega] at this
    · have r := stages_rises k _ (a + 2 ^ k) hal.2 h2
      have t := stages_const false k _ a hal.1 h1
      intro i j hij hj hi
      rcases Nat.lt_or_ge i (2 ^ k) with hi' | hi'
      · have := t i hi'
        rw [stages, this] at hi; exact absurd hi (by decide)
      · have := r (i - 2 ^ k) (j - 2 ^ k) (by omega) (by omega)
        rw [show a + 2 ^ k + (j - 2 ^ k) = a + j by omega, show a + 2 ^ k + (i - 2 ^ k) = a + i by omega] at this
        exact this hi

/-! ## All thresholds together -/

variable {α : Type*} [LinearOrder α]

/-- "At least `t`" commutes with a stage. -/
theorem stage_ge (t : α) (d : ℕ) (f : ℕ → α) : stage d (fun l => decide (t ≤ f l)) = fun l => decide (t ≤ stage d f l) := by
  funext l
  unfold stage
  split
  · exact (Bool.decide_or _ _).symm.trans (decide_eq_decide.mpr le_max_iff.symm)
  · exact (Bool.decide_and _ _).symm.trans (decide_eq_decide.mpr le_min_iff.symm)

theorem stages_ge (t : α) : ∀ (k : ℕ) (f : ℕ → α), stages k (fun l => decide (t ≤ f l)) = fun l => decide (t ≤ stages k f l)
  | 0, _ => rfl
  | k + 1, f => by rw [stages, stage_ge, stages_ge t k]; rfl

/-- A predicate that never falls back is "from some place on". -/
theorem from_place (P : ℕ → Prop) : ∀ n, (∀ i j, i ≤ j → j < n → P i → P j) → ∃ p ≤ n, ∀ i < n, (P i ↔ p ≤ i)
  | 0, _ => ⟨0, le_refl _, fun i hi => absurd hi (by omega)⟩
  | n + 1, h => by
    obtain ⟨p, hp, hP⟩ := from_place P n fun i j hij hj => h i j hij (by omega)
    by_cases hn : P n
    · by_cases hpn : p = n
      · subst hpn
        refine ⟨p, by omega, fun i hi => ?_⟩
        rcases Nat.lt_or_ge i p with h1 | h1
        · exact hP i h1
        · obtain rfl : i = p := by omega
          exact ⟨fun _ => le_refl _, fun _ => hn⟩
      · refine ⟨p, by omega, fun i hi => ?_⟩
        rcases Nat.lt_or_ge i n with h1 | h1
        · exact hP i h1
        · obtain rfl : i = n := by omega
          exact ⟨fun _ => hp, fun _ => hn⟩
    · have hpn : ¬ p < n := fun hlt => hn (h p n (by omega) (by omega) ((hP p hlt).2 (le_refl _)))
      refine ⟨n + 1, by omega, fun i hi => ?_⟩
      rcases Nat.lt_or_ge i n with h1 | h1
      · rw [hP i h1]; omega
      · obtain rfl : i = n := by omega
        exact ⟨fun h' => absurd h' hn, fun h' => absurd h' (by omega)⟩

/-- An ascending half followed by a descending half is one arc at every threshold. -/
theorem arc_of_up_down (f : ℕ → α) (n : ℕ) (up : ∀ i j, i ≤ j → j < n → f i ≤ f j)
    (down : ∀ i j, i ≤ j → j < n → f (n + j) ≤ f (n + i)) (t : α) : Arc (fun l => decide (t ≤ f l)) 0 (n + n) := by
  obtain ⟨p, hp, hP⟩ := from_place (fun i => t ≤ f i) n fun i j hij hj h => h.trans (up i j hij hj)
  obtain ⟨q, hq, hQ⟩ := from_place (fun i => ¬ t ≤ f (n + i)) n fun i j hij hj h h' => h (h'.trans (down i j hij hj))
  refine ⟨p, n + q, by omega, by omega, Or.inl fun i hi => ?_⟩
  rw [Nat.zero_add, decide_eq_true_iff]
  rcases Nat.lt_or_ge i n with h | h
  · rw [hP i h]; omega
  · have := hQ (i - n) (by omega)
    rw [show n + (i - n) = i by omega] at this
    rw [← not_not (a := t ≤ f i), this]; omega

/-- The merge is ascending. -/
theorem stages_mono (k : ℕ) (f : ℕ → α) (up : ∀ i j, i ≤ j → j < 2 ^ k → f i ≤ f j)
    (down : ∀ i j, i ≤ j → j < 2 ^ k → f (2 ^ k + j) ≤ f (2 ^ k + i)) (i j : ℕ) (hij : i ≤ j) (hj : j < 2 ^ (k + 1)) :
    stages (k + 1) f i ≤ stages (k + 1) f j := by
  have r := stages_rises (k + 1) (fun l => decide (stages (k + 1) f i ≤ f l)) 0 (Nat.zero_mod _)
    (by rw [pow_succ', two_mul]; exact arc_of_up_down f _ up down _) i j hij hj
  rw [stages_ge, Nat.zero_add, Nat.zero_add] at r
  exact of_decide_eq_true (r (decide_eq_true (le_refl _)))

/-! ## The entries are kept -/

/-- The partner at distance `d`. -/
def partner (d l : ℕ) : ℕ := if (l / d) % 2 = 1 then l - d else l + d

theorem partner_facts (k m l : ℕ) (hl : l < 2 ^ (k + 1 + m)) :
    partner (2 ^ k) l < 2 ^ (k + 1 + m) ∧ partner (2 ^ k) (partner (2 ^ k) l) = l
      ∧ ((partner (2 ^ k) l / 2 ^ k) % 2 = 1 ↔ ¬ (l / 2 ^ k) % 2 = 1) := by
  have h2 : 2 ^ (k + 1 + m) = 2 ^ k * (2 * 2 ^ m) := by rw [pow_add, pow_add]; ring
  have hk : 0 < 2 ^ k := Nat.two_pow_pos k
  rw [h2] at hl ⊢
  generalize 2 ^ k = n at *
  generalize 2 ^ m = M at *
  have hdm := Nat.div_add_mod l n
  have hr := Nat.mod_lt l hk
  have hq : l / n < 2 * M := Nat.div_lt_of_lt_mul hl
  generalize l / n = q at *
  generalize l % n = r at *
  have dv : ∀ c, (n * c + r) / n = c := fun c => by
    rw [Nat.add_comm, Nat.add_mul_div_left _ _ hk, Nat.div_eq_of_lt hr, Nat.zero_add]
  subst hdm
  unfold partner
  rw [dv q]
  have up : ∀ c, n * c + r + n = n * (c + 1) + r := fun c => by ring
  have lt : ∀ c, c < 2 * M → n * c + r < n * (2 * M) := fun c hc =>
    calc n * c + r < n * c + n := by omega
      _ = n * (c + 1) := by ring
      _ ≤ n * (2 * M) := Nat.mul_le_mul_left _ hc
  by_cases h : q % 2 = 1
  · obtain ⟨c, rfl⟩ : ∃ c, q = c + 1 := ⟨q - 1, by omega⟩
    have e : n * (c + 1) + r - n = n * c + r := by rw [← up]; omega
    rw [if_pos h, e, dv c, if_neg (by omega), up]
    exact ⟨lt c (by omega), rfl, by omega⟩
  · rw [if_neg h, up, dv (q + 1), if_pos (by omega), ← up]
    exact ⟨by rw [up]; exact lt (q + 1) (by omega), by omega, by omega⟩

/-- The exchange of partners, as a permutation of the places. -/
def swap (k m : ℕ) : Equiv.Perm (Fin (2 ^ (k + 1 + m))) where
  toFun l := ⟨partner (2 ^ k) l, (partner_facts k m l l.2).1⟩
  invFun l := ⟨partner (2 ^ k) l, (partner_facts k m l l.2).1⟩
  left_inv l := Fin.ext (partner_facts k m l l.2).2.1
  right_inv l := Fin.ext (partner_facts k m l l.2).2.1

/-- How many of the first `n` entries have the property `p`. -/
def count (p : α → Prop) [DecidablePred p] (f : ℕ → α) (n : ℕ) : ℕ := ∑ l : Fin n, if p (f l) then 1 else 0

theorem count_range (p : α → Prop) [DecidablePred p] (f : ℕ → α) (n : ℕ) :
    count p f n = ∑ l ∈ Finset.range n, if p (f l) then 1 else 0 :=
  Fin.sum_univ_eq_sum_range (fun l => if p (f l) then 1 else 0) n

/-- A stage keeps how many entries have a property. -/
theorem count_stage (p : α → Prop) [DecidablePred p] (k m : ℕ) (f : ℕ → α) :
    count p (stage (2 ^ k) f) (2 ^ (k + 1 + m)) = count p f (2 ^ (k + 1 + m)) := by
  have pair : ∀ l : Fin (2 ^ (k + 1 + m)),
      ((if p (stage (2 ^ k) f l) then 1 else 0) + (if p (stage (2 ^ k) f (swap k m l)) then 1 else 0) : ℕ)
        = (if p (f l) then 1 else 0) + (if p (f (swap k m l)) then 1 else 0) := by
    intro l
    obtain ⟨-, h2, h3⟩ := partner_facts k m l l.2
    have e : ∀ l, stage (2 ^ k) f l = if (l / 2 ^ k) % 2 = 1 then max (f l) (f (partner (2 ^ k) l)) else min (f l) (f (partner (2 ^ k) l)) := by
      intro l; unfold stage partner; split <;> rfl
    have el := e l
    have er := e (partner (2 ^ k) l)
    rw [h2] at er
    show _ + (if p (stage (2 ^ k) f (partner (2 ^ k) l)) then 1 else 0) = _ + (if p (f (partner (2 ^ k) l)) then 1 else 0)
    rw [el, er]
    generalize partner (2 ^ k) l = l' at *
    by_cases hc : (l.val / 2 ^ k) % 2 = 1
    · rw [if_pos hc, if_neg (fun h => h3.1 h hc)]
      rcases le_total (f l) (f l') with h | h
      · rw [max_eq_right h, min_eq_right h]; omega
      · rw [max_eq_left h, min_eq_left h]
    · rw [if_neg hc, if_pos (h3.2 hc)]
      rcases le_total (f l) (f l') with h | h
      · rw [min_eq_left h, max_eq_left h]
      · rw [min_eq_right h, max_eq_right h]; omega
  have s := Finset.sum_congr rfl fun l (_ : l ∈ (Finset.univ : Finset (Fin (2 ^ (k + 1 + m))))) => pair l
  rw [Finset.sum_add_distrib, Finset.sum_add_distrib,
    Equiv.sum_comp (swap k m) (fun l => if p (stage (2 ^ k) f l) then 1 else 0),
    Equiv.sum_comp (swap k m) (fun l => if p (f l) then 1 else 0)] at s
  unfold count
  omega

/-- So does the whole merge. -/
theorem count_stages (p : α → Prop) [DecidablePred p] : ∀ (k m : ℕ) (f : ℕ → α), count p (stages k f) (2 ^ (k + m)) = count p f (2 ^ (k + m))
  | 0, _, _ => rfl
  | k + 1, m, f => by
    have h := count_stages p k (1 + m) (stage (2 ^ k) f)
    rw [← Nat.add_assoc] at h
    rw [stages, h, count_stage]

/-! ## Two ascending sequences with the same entries -/

theorem sum_from (p : ℕ) : ∀ n, p ≤ n → (∑ l ∈ Finset.range n, if p ≤ l then 1 else 0) = n - p
  | 0, h => by simp
  | n + 1, h => by
    rw [Finset.sum_range_succ]
    by_cases hp : p = n + 1
    · subst hp
      rw [if_neg (by omega), Finset.sum_eq_zero fun x hx => if_neg (by have := Finset.mem_range.1 hx; omega)]; omega
    · rw [sum_from p n (by omega), if_pos (by omega)]; omega

/-- Two ascending sequences with, at every threshold, the same number of entries that reach it, agree. -/
theorem eq_of_counts (F G : ℕ → α) (n : ℕ) (hF : ∀ i j, i ≤ j → j < n → F i ≤ F j) (hG : ∀ i j, i ≤ j → j < n → G i ≤ G j)
    (h : ∀ t, count (fun x => t ≤ x) F n = count (fun x => t ≤ x) G n) (i : ℕ) (hi : i < n) : F i = G i := by
  have key : ∀ t, t ≤ F i ↔ t ≤ G i := by
    intro t
    obtain ⟨p, hp, hP⟩ := from_place (fun i => t ≤ F i) n fun i j hij hj h => h.trans (hF i j hij hj)
    obtain ⟨q, hq, hQ⟩ := from_place (fun i => t ≤ G i) n fun i j hij hj h => h.trans (hG i j hij hj)
    have e := h t
    rw [count_range, count_range, Finset.sum_congr rfl fun l hl => if_congr (hP l (Finset.mem_range.1 hl)) rfl rfl,
      Finset.sum_congr rfl fun l hl => if_congr (hQ l (Finset.mem_range.1 hl)) rfl rfl, sum_from p n hp, sum_from q n hq] at e
    rw [hP i hi, hQ i hi]; omega
  exact le_antisymm ((key _).1 (le_refl _)) ((key _).2 (le_refl _))

variable [OrderTop α]

/-- What the merge is given: the depths ascending, a padding of tops, the samples descending. -/
def padded (z s : ℕ → α) (l : ℕ) : α := if l < 64 then z l else if l < 128 then ⊤ else s (255 - l)

/-- What the sort is given: the depths and then the samples. -/
def joined (z s : ℕ → α) (i : ℕ) : α := if i < 64 then z i else s (i - 64)

/-- The merge of the padded sequence begins with the sorted sequence: `R`, ascending, a rearrangement of the depths and the samples. -/
theorem merge_eq_sorted (z s : ℕ → α) (hz : ∀ i j, i ≤ j → j < 64 → z i ≤ z j) (hs : ∀ i j, i ≤ j → j < 128 → s i ≤ s j)
    (R : Fin 192 → α) (hR : Monotone R) (σ : Equiv.Perm (Fin 192)) (hσ : ∀ i, R i = joined z s (σ i)) (i : Fin 192) :
    stages 8 (padded z s) i = R i := by
  have top : ∀ (l : ℕ), 64 ≤ l → l < 128 → padded z s l = ⊤ := fun l h1 h2 => by
    rw [padded, if_neg (by omega), if_pos h2]
  have hi : ∀ l, 128 ≤ l → padded z s l = s (255 - l) := fun l h => by rw [padded, if_neg (by omega), if_neg (by omega)]
  have lo : ∀ l, l < 64 → padded z s l = z l := fun l h => if_pos h
  have mono := stages_mono 7 (padded z s) (fun i j hij hj => by
      rcases Nat.lt_or_ge j 64 with h | h
      · rw [lo i (by omega), lo j h]; exact hz i j hij h
      · rw [top j h hj]; exact le_top)
    (fun i j hij hj => by
      have hj' : j < 128 := hj
      rw [hi _ (by omega), hi _ (by omega)]; exact hs _ _ (by omega) (by omega))
  let R' : ℕ → α := fun l => if h : l < 192 then R ⟨l, h⟩ else ⊤
  have hR' : ∀ i j, i ≤ j → j < 256 → R' i ≤ R' j := fun i j hij _ => by
    show (if h : i < 192 then R ⟨i, h⟩ else ⊤) ≤ (if h : j < 192 then R ⟨j, h⟩ else ⊤)
    by_cases h : j < 192
    · rw [dif_pos h, dif_pos (by omega)]; exact hR hij
    · rw [dif_neg h]; exact le_top
  have cnt : ∀ t, count (fun x => t ≤ x) (stages 8 (padded z s)) 256 = count (fun x => t ≤ x) R' 256 := by
    intro t
    have r : (∑ l ∈ Finset.range 192, if t ≤ R' l then 1 else 0) = ∑ l ∈ Finset.range 192, if t ≤ joined z s l then 1 else 0 := by
      rw [← Fin.sum_univ_eq_sum_range (fun l => if t ≤ R' l then 1 else 0), ← Fin.sum_univ_eq_sum_range (fun l => if t ≤ joined z s l then 1 else 0),
        ← Equiv.sum_comp σ (fun l : Fin 192 => if t ≤ joined z s l then 1 else 0)]
      refine Finset.sum_congr rfl fun l _ => ?_
      rw [← hσ]
      show (if t ≤ (if h : l.val < 192 then R ⟨l, h⟩ else ⊤) then 1 else 0) = _
      rw [dif_pos l.2]
    refine (count_stages (fun x => t ≤ x) 8 0 (padded z s)).trans ?_
    rw [count_range, count_range]
    show (∑ l ∈ Finset.range (64 + (64 + 128)), _) = ∑ l ∈ Finset.range (192 + 64), _
    rw [Finset.sum_range_add, Finset.sum_range_add, Finset.sum_range_add (n := 192), r]
    show _ = (∑ l ∈ Finset.range (64 + 128), _) + _
    rw [Finset.sum_range_add, ← Finset.sum_range_reflect (fun x => if t ≤ joined z s (64 + x) then 1 else 0) 128]
    have e1 : ∀ x ∈ Finset.range 64, (if t ≤ padded z s x then 1 else 0 : ℕ) = if t ≤ joined z s x then 1 else 0 := fun x hx => by
      rw [lo x (Finset.mem_range.1 hx), joined, if_pos (Finset.mem_range.1 hx)]
    have e2 : ∀ x ∈ Finset.range 64, (if t ≤ padded z s (64 + x) then 1 else 0 : ℕ) = if t ≤ R' (192 + x) then 1 else 0 := fun x hx => by
      have := Finset.mem_range.1 hx
      rw [top _ (by omega) (by omega)]
      show _ = if t ≤ (if h : 192 + x < 192 then R ⟨192 + x, h⟩ else ⊤) then 1 else 0
      rw [dif_neg (by omega)]
    have e3 : ∀ x ∈ Finset.range 128, (if t ≤ padded z s (64 + (64 + x)) then 1 else 0 : ℕ) = if t ≤ joined z s (64 + (128 - 1 - x)) then 1 else 0 := fun x hx => by
      have := Finset.mem_range.1 hx
      rw [hi _ (by omega), joined, if_neg (show ¬ 64 + (128 - 1 - x) < 64 by omega), show 255 - (64 + (64 + x)) = 64 + (128 - 1 - x) - 64 by omega]
    rw [Finset.sum_congr rfl e1, Finset.sum_congr rfl e2, Finset.sum_congr rfl e3]
    omega
  have fin := eq_of_counts _ R' 256 mono hR' cnt i (by omega)
  rw [fin]
  show (if h : i.val < 192 then R ⟨i, h⟩ else ⊤) = R i
  rw [dif_pos i.2]

end Cert.Proof.Bitonic

end
-- ==== Proof.Block.lean ====
/-
  The kernel's block, one ray at a time: its tables, its samples, and the row the merge network starts from and ends
  with, as real numbers of the ray.
-/
module

public import proofs.«01_k».proof.Proof.Loop
public import proofs.«01_k».proof.Proof.Ray
public import proofs.«01_k».proof.Proof.Bitonic

@[expose] public section

set_option maxRecDepth 16384

noncomputable section

namespace Cert.Proof.Block

open Cert.KernelIdeal Cert.KernelIdeal.Gen Idealize.ShloMosaic Cert.Proof.Loop Cert.Proof.Ray Cert.Proof.Sampling Finset

/-! ## The tables -/

theorem sle_bit : ∀ x l : Fin 62, BitVec.setWidth 32 (IntOp.cmpi CmpIPredicate.sle (BitVec.ofNat 32 x.val) (BitVec.ofNat 32 l.val))
    = if x.val ≤ l.val then 1#32 else 0#32 := by decide +kernel

theorem sitofp_bit (P : Prop) [Decidable P] : FloatOps.sitofp (F := Ideal) .f32 (if P then 1#32 else 0#32) = (((if P then 1 else 0 : ℝ)) : EReal) := by
  split
  · show (((1#32 : BitVec 32).toInt : ℝ) : EReal) = _
    norm_num
  · show (((0#32 : BitVec 32).toInt : ℝ) : EReal) = _
    norm_num

/-- A sum against the lower triangle of ones is a partial sum. -/
theorem prefix_sum (f : Fin 62 → EReal) (w : ℕ → ℝ) (hf : ∀ i : Fin 62, f i = (w i : EReal)) (l : Fin 62) :
    ∑ x : Fin 62, f x * FloatOps.sitofp (F := Ideal) .f32
      (BitVec.setWidth 32 (IntOp.cmpi CmpIPredicate.sle (BitVec.ofNat 32 x.val) (BitVec.ofNat 32 l.val)))
      = ((∑ i ∈ range (l.val + 1), w i : ℝ) : EReal) := by
  have : ∀ x : Fin 62, f x * FloatOps.sitofp (F := Ideal) .f32
      (BitVec.setWidth 32 (IntOp.cmpi CmpIPredicate.sle (BitVec.ofNat 32 x.val) (BitVec.ofNat 32 l.val)))
      = (((fun i => if i ≤ l.val then w i else 0) x.val : ℝ) : EReal) := by
    intro x
    rw [sle_bit, sitofp_bit, hf, ← EReal.coe_mul]
    congr 1
    by_cases h : x.val ≤ l.val <;> simp [h]
  rw [sum_congr rfl fun x _ => this x, ← coe_sum, Fin.sum_univ_eq_sum_range (fun i => if i ≤ l.val then w i else 0) 62, ← sum_filter]
  congr 2
  ext i
  have := l.isLt
  simp only [mem_filter, mem_range]
  omega

variable {zv wv : FVec Ideal S512x64 .f32} {r : Fin 512} {z w : ℕ → ℝ}

theorem mid_apply (h : Sound (fun i => zv (ix2 r i)) (fun i => wv (ix2 r i)) z w) (l : Fin 63) :
    k0_pay3 (F := Ideal) zv (ix2 r l) = (mid z l : EReal) := by
  have h1 := h.hz ⟨1 + l.val, by omega⟩
  have h0 := h.hz ⟨l.val, by omega⟩
  pointwise [k0_pay3]
  rw [ofBits_half, h1, h0, ← EReal.coe_add, ← EReal.coe_mul, mid]
  simp only
  rw [Nat.add_comm 1]

theorem cdf_apply (h : Sound (fun i => zv (ix2 r i)) (fun i => wv (ix2 r i)) z w) (l : Fin 62) :
    k0_pay2 (F := Ideal) wv (ix2 r l) = (cum (mass w) (l + 1) : EReal) := by
  have hf : ∀ i : Fin 62, wv (ix2 r ⟨1 + i.val, by omega⟩) + Ideal.ofBits .f32 0x3727C5AC#32 = (w i : EReal) := by
    intro i
    have e : (⟨1 + i.val, by omega⟩ : Fin 64) = ⟨i.val + 1, by omega⟩ := Fin.ext (Nat.add_comm 1 i.val)
    rw [← h.hw i, e]
  pointwise [k0_pay2]
  rw [prefix_sum _ w hf l]
  have h61 := prefix_sum _ w hf ⟨61, by omega⟩
  refine (congrArg (Ideal.div _) h61).trans ?_
  rw [div_real _ h.total, cum_mass]

theorem knot_apply (h : Sound (fun i => zv (ix2 r i)) (fun i => wv (ix2 r i)) z w) (l : Fin 63) :
    k0_pay4 (F := Ideal) wv (ix2 r l) = (cum (mass w) l : EReal) := by
  pointwise [k0_pay4]
  split
  · rw [show l.val = 0 by omega]; simp [cum]
  · rw [cdf_apply h]
    simp only
    rw [Nat.sub_add_cancel (by omega)]

theorem slope_apply (h : Sound (fun i => zv (ix2 r i)) (fun i => wv (ix2 r i)) z w) (l : Fin 63) (hl : l.val < 62) :
    k0_pay5 (F := Ideal) zv wv (ix2 r l) = (slope (mid z) (mass w) eps l : EReal) := by
  pointwise [k0_pay5]
  rw [dif_pos hl, dif_pos hl, mid_apply h, mid_apply h, cdf_apply h, knot_apply h, ofBits_eps, ← EReal.coe_sub, ← EReal.coe_sub, ← coe_max,
    div_real _ (lt_of_lt_of_le eps_pos (le_max_right _ _)).ne']
  simp only
  rw [Nat.add_comm 1, Sampling.slope]

theorem step_value : Named.named (F := Ideal) (φ := .f32) κ "step" 0x3C010204#32 = ((127⁻¹ : ℝ) : EReal) :=
  IdealRules.named_const.ideal_named_scalar _ _ _ _ rfl

theorem pad_value : Named.named (F := Ideal) (φ := .f32) κ "pad" 0x7F61B1E6#32 = ⊤ :=
  IdealRules.named_const.ideal_named_scalar _ _ _ _ rfl

theorem toInt_small (n : ℕ) (h : n < 576) : (BitVec.ofNat 32 n).toInt = n := by
  rw [BitVec.toInt_eq_toNat_of_lt (by rw [BitVec.toNat_ofNat]; omega), BitVec.toNat_ofNat, Nat.mod_eq_of_lt (by omega)]

theorem level_apply (q l : Fin 128) : k0_pay6 (F := Ideal) (ix2 q l) = (level (127 - l.val) : EReal) := by
  pointwise [k0_pay6]
  have hs : FloatOps.sitofp (F := Ideal) .f32 (BitVec.ofNat 32 l.val) = ((l.val : ℝ) : EReal) := by
    show (((BitVec.ofNat 32 l.val).toInt : ℝ) : EReal) = _
    rw [toInt_small _ (by omega)]; norm_cast
  rw [hs, ofBits_127, step_value, ← EReal.coe_sub, ← EReal.coe_mul, level, Nat.cast_sub (by omega), div_eq_mul_inv]
  norm_num

/-! ## The samples -/

theorem clip_apply (u : FVec Ideal S128x128 .f32) (cf : FVec Ideal S128x63 .f32) (q l : Fin 128) (x : ℝ) (p : ℕ → ℝ) (hx : 0 ≤ x)
    (hu : u (ix2 q l) = (x : EReal)) (hc : ∀ i : Fin 63, cf (ix2 q i) = (cum p i : EReal)) (i : ℕ) (hi : i < 63) :
    clip u cf i (ix2 q l) = ((min x (cum p i) : ℝ) : EReal) := by
  cases i with
  | zero =>
    rw [show cum p 0 = 0 by simp [cum], min_eq_right hx]
    pointwise [clip, k0_pay10]
    rfl
  | succ i =>
    pointwise [clip, col]
    rw [hu, hc, ← coe_min]
    simp only
    rw [Nat.mod_eq_of_lt hi]

theorem accu_apply (u : FVec Ideal S128x128 .f32) (cf sl : FVec Ideal S128x63 .f32) (b : FVec Ideal S128x128 .f32) (q l : Fin 128) (x : ℝ)
    (m p : ℕ → ℝ) (ε : ℝ) (hx : 0 ≤ x) (hu : u (ix2 q l) = (x : EReal)) (hc : ∀ i : Fin 63, cf (ix2 q i) = (cum p i : EReal))
    (hs : ∀ i : Fin 63, i.val < 62 → sl (ix2 q i) = (slope m p ε i : EReal)) (hb : b (ix2 q l) = (m 0 : EReal)) :
    ∀ n ≤ 62, accu u cf sl b n (ix2 q l) = (Sampling.piece m p ε x n : EReal) := by
  intro n
  induction n with
  | zero => intro _; simp [accu, hb, Sampling.piece]
  | succ n ih =>
    intro hn
    have h1 := clip_apply u cf q l x p hx hu hc (n + 1) (by omega)
    have h0 := clip_apply u cf q l x p hx hu hc n (by omega)
    have hi := ih (by omega)
    have hsl := hs ⟨n % 63, Nat.mod_lt _ (by omega)⟩ (by show n % 63 < 62; omega)
    pointwise [accu, col]
    rw [h1, h0, hi, hsl, ← EReal.coe_sub, ← EReal.coe_mul, ← EReal.coe_add, piece_succ]
    simp only
    rw [Nat.mod_eq_of_lt (by omega : n < 63)]

theorem chunk_apply {r : Fin 512} (k : Fin 4) (q l : Fin 128) (hr : r.val = 128 * k.val + q.val)
    (h : Sound (fun i => zv (ix2 r i)) (fun i => wv (ix2 r i)) z w) :
    chunk (F := Ideal) zv wv k (ix2 q l) = (sample z w (127 - l.val) : EReal) := by
  obtain ⟨n, hn⟩ := r
  obtain rfl : n = 128 * k.val + q.val := hr
  refine accu_apply _ _ _ _ q l _ (mid z) (mass w) eps (level_nonneg _) (level_apply q l) (fun i => ?_) (fun i hi => ?_) ?_ 62 le_rfl
  · pointwise [rows]
    exact knot_apply h i
  · pointwise [rows]
    exact slope_apply h i hi
  · pointwise [base]
    exact mid_apply h 0

theorem samples_apply (h : Sound (fun i => zv (ix2 r i)) (fun i => wv (ix2 r i)) z w) (l : Fin 128) :
    samples (F := Ideal) zv wv (ix2 r l) = (sample z w (127 - l.val) : EReal) := by
  pointwise [samples]
  split
  · exact chunk_apply 0 _ l (by simp) h
  split
  · exact chunk_apply 1 _ l (by simp; omega) h
  split
  · exact chunk_apply 2 _ l (by simp; omega) h
  · exact chunk_apply 3 _ l (by simp; omega) h

/-! ## The merge network -/

/-- A row of 256 columns as a function of the column, anything outside. -/
def line (s : FVec Ideal S512x256 .f32) (r : Fin 512) (l : ℕ) : EReal := if h : l < 256 then s (ix2 r ⟨l, h⟩) else ⊤

theorem line_val (s : FVec Ideal S512x256 .f32) (r : Fin 512) (l : Fin 256) : line s r l = s (ix2 r l) := dif_pos l.isLt

theorem roll_apply (k m : ℕ) (hk : k + m = 256) (s : FVec Ideal S512x256 .f32) (h1 h2 h) (r : Fin 512) (l : Fin 256) :
    roll k m s h1 h2 h (ix2 r l) = line s r (if l.val < m then l.val + k else l.val - m) := by
  have := l.isLt
  pointwise [roll]
  split
  · rw [line, dif_pos (by omega)]
    congr 2
    exact Fin.ext (Nat.add_comm _ _)
  · rw [line, dif_pos (by omega)]
    rfl

theorem step_apply (d : ℕ) (hd : 0 < d) (hd' : d < 256)
    (hbit : ∀ l : Fin 256, IntOp.cmpi CmpIPredicate.ne (IntOp.andi (BitVec.ofNat 32 l.val) (BitVec.ofNat 32 d)) 0#32
      = if (l.val / d) % 2 = 1 then 1#1 else 0#1)
    (hup : ∀ l < 256, (l / d) % 2 ≠ 1 → l < 256 - d) (s : FVec Ideal S512x256 .f32) (h1 h2 h h1' h2' h') (r : Fin 512) (l : ℕ) (hl : l < 256) :
    line (step d s (roll d (256 - d) s h1 h2 h) (roll (256 - d) d s h1' h2' h')) r l = Bitonic.stage d (line s r) l := by
  have hm : mask d (ix2 r ⟨l, hl⟩) = if (l / d) % 2 = 1 then 1#1 else 0#1 := by
    pointwise [mask]
    exact hbit ⟨l, hl⟩
  have hf := roll_apply d (256 - d) (by omega) s h1 h2 h r ⟨l, hl⟩
  have hb := roll_apply (256 - d) d (by omega) s h1' h2' h' r ⟨l, hl⟩
  have hs := line_val s r ⟨l, hl⟩
  rw [line, dif_pos hl]
  pointwise [step]
  rw [hm, hf, hb, ← hs, Bitonic.stage]
  by_cases hc : (l / d) % 2 = 1
  · have hge : ¬ l < d := by
      intro hlt
      rw [Nat.div_eq_of_lt hlt] at hc
      omega
    rw [if_pos hc, if_pos hc, if_neg hge]
    rfl
  · rw [if_neg hc, if_neg hc, if_pos (hup l hl hc)]
    rfl

theorem stage_congr {d : ℕ} (hup : ∀ l < 256, (l / d) % 2 ≠ 1 → l < 256 - d) {f g : ℕ → EReal} (h : ∀ l < 256, f l = g l) :
    ∀ l < 256, Bitonic.stage d f l = Bitonic.stage d g l := by
  intro l hl
  unfold Bitonic.stage
  by_cases hc : (l / d) % 2 = 1
  · rw [if_pos hc, if_pos hc, h l hl, h (l - d) (by omega)]
  · have := hup l hl hc
    rw [if_neg hc, if_neg hc, h l hl, h (l + d) (by omega)]

theorem up128 : ∀ l < 256, (l / 128) % 2 ≠ 1 → l < 256 - 128 := by omega
theorem up64 : ∀ l < 256, (l / 64) % 2 ≠ 1 → l < 256 - 64 := by omega
theorem up32 : ∀ l < 256, (l / 32) % 2 ≠ 1 → l < 256 - 32 := by omega
theorem up16 : ∀ l < 256, (l / 16) % 2 ≠ 1 → l < 256 - 16 := by omega
theorem up8 : ∀ l < 256, (l / 8) % 2 ≠ 1 → l < 256 - 8 := by omega
theorem up4 : ∀ l < 256, (l / 4) % 2 ≠ 1 → l < 256 - 4 := by omega
theorem up2 : ∀ l < 256, (l / 2) % 2 ≠ 1 → l < 256 - 2 := by omega
theorem up1 : ∀ l < 256, (l / 1) % 2 ≠ 1 → l < 256 - 1 := by omega

theorem merged_line (s : FVec Ideal S512x256 .f32) (f : ℕ → EReal) (r : Fin 512) (h : ∀ l < 256, line s r l = f l) (l : Fin 192) :
    merged s (ix2 r l) = Bitonic.stages 8 f l := by
  have e7 : ∀ l < 256, line (st128 s) r l = Bitonic.stage 128 f l :=
    fun l hl => (step_apply 128 (by omega) (by omega) (by decide +kernel) up128 s _ _ _ _ _ _ r l hl).trans (stage_congr up128 h l hl)
  have e6 : ∀ l < 256, line (st64 (st128 s)) r l = Bitonic.stage 64 (Bitonic.stage 128 f) l :=
    fun l hl => (step_apply 64 (by omega) (by omega) (by decide +kernel) up64 (st128 s) _ _ _ _ _ _ r l hl).trans (stage_congr up64 e7 l hl)
  have e5 : ∀ l < 256, line (st32 (st64 (st128 s))) r l = Bitonic.stage 32 (Bitonic.stage 64 (Bitonic.stage 128 f)) l :=
    fun l hl => (step_apply 32 (by omega) (by omega) (by decide +kernel) up32 (st64 (st128 s)) _ _ _ _ _ _ r l hl).trans (stage_congr up32 e6 l hl)
  have e4 : ∀ l < 256, line (st16 (st32 (st64 (st128 s)))) r l = Bitonic.stage 16 (Bitonic.stage 32 (Bitonic.stage 64 (Bitonic.stage 128 f))) l :=
    fun l hl => (step_apply 16 (by omega) (by omega) (by decide +kernel) up16 (st32 (st64 (st128 s))) _ _ _ _ _ _ r l hl).trans (stage_congr up16 e5 l hl)
  have e3 : ∀ l < 256, line (st8 (st16 (st32 (st64 (st128 s))))) r l = Bitonic.stage 8 (Bitonic.stage 16 (Bitonic.stage 32 (Bitonic.stage 64 (Bitonic.stage 128 f)))) l :=
    fun l hl => (step_apply 8 (by omega) (by omega) (by decide +kernel) up8 (st16 (st32 (st64 (st128 s)))) _ _ _ _ _ _ r l hl).trans (stage_congr up8 e4 l hl)
  have e2 : ∀ l < 256, line (st4 (st8 (st16 (st32 (st64 (st128 s)))))) r l = Bitonic.stage 4 (Bitonic.stage 8 (Bitonic.stage 16 (Bitonic.stage 32 (Bitonic.stage 64 (Bitonic.stage 128 f))))) l :=
    fun l hl => (step_apply 4 (by omega) (by omega) (by decide +kernel) up4 (st8 (st16 (st32 (st64 (st128 s))))) _ _ _ _ _ _ r l hl).trans (stage_congr up4 e3 l hl)
  have e1 : ∀ l < 256, line (st2 (st4 (st8 (st16 (st32 (st64 (st128 s))))))) r l = Bitonic.stage 2 (Bitonic.stage 4 (Bitonic.stage 8 (Bitonic.stage 16 (Bitonic.stage 32 (Bitonic.stage 64 (Bitonic.stage 128 f)))))) l :=
    fun l hl => (step_apply 2 (by omega) (by omega) (by decide +kernel) up2 (st4 (st8 (st16 (st32 (st64 (st128 s)))))) _ _ _ _ _ _ r l hl).trans (stage_congr up2 e2 l hl)
  have e0 : ∀ l < 256, line (st1 (st2 (st4 (st8 (st16 (st32 (st64 (st128 s)))))))) r l = Bitonic.stage 1 (Bitonic.stage 2 (Bitonic.stage 4 (Bitonic.stage 8 (Bitonic.stage 16 (Bitonic.stage 32 (Bitonic.stage 64 (Bitonic.stage 128 f))))))) l :=
    fun l hl => (step_apply 1 (by omega) (by omega) (by decide +kernel) up1 (st2 (st4 (st8 (st16 (st32 (st64 (st128 s))))))) _ _ _ _ _ _ r l hl).trans (stage_congr up1 e1 l hl)
  pointwise [merged]
  exact (line_val _ r ⟨l.val, by omega⟩).symm.trans (e0 l.val (by omega))

/-- The block's first result, at a ray the precondition admits. -/
theorem zall_apply (h : Sound (fun i => zv (ix2 r i)) (fun i => wv (ix2 r i)) z w) (l : Fin 192) :
    merged (joined (F := Ideal) zv wv) (ix2 r l)
      = Bitonic.stages 8 (Bitonic.padded (fun i => (z i : EReal)) (fun j => (sample z w j : EReal))) l := by
  refine merged_line _ _ r (fun l hl => ?_) l
  have hz := fun hl => h.hz ⟨l, hl⟩
  rw [line, dif_pos hl]
  pointwise [joined]
  unfold Bitonic.padded
  by_cases h1 : l < 64
  · rw [dif_pos h1, if_pos h1]
    exact hz h1
  · by_cases h2 : l < 128
    · rw [dif_neg h1, dif_pos (by omega), if_neg h1, if_pos h2, pad_value]
    · rw [dif_neg h1, dif_neg (by omega), if_neg h1, if_neg h2, samples_apply h]
      simp only
      rw [show 127 - (l - 64 - 64) = 255 - l by omega]

end Cert.Proof.Block

end
-- ==== Proof.Reads.lean ====
/-
  What the host's array operations hold at an index, over the extended reals: a running sum, a count, a look-up in a
  row, a test over an axis of length one, and a sorted row.
-/
module

public import proofs.«01_k».proof.Proof.Gen.ReferenceIdeal.Run
public import Idealize.ShloMosaic.Lib.Pointwise
public import Idealize.ShloMosaic.Lib.IndicatorCount
public import Idealize.ShloMosaic.Lib.SortFacts

@[expose] public section

noncomputable section

namespace Cert.Proof.Reads

open Cert.ReferenceIdeal Cert.ReferenceIdeal.Gen Idealize.ShloMosaic Finset

/-! ## Running sums -/

/-- Adding a list up from a start gives the start plus the list's sum. -/
theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- A window of 62 places that ends at place `j`, zero before the start, adds up the first `j + 1` terms. -/
theorem window_sum (f : ℕ → EReal) (j : ℕ) (hj : j < 62) :
    ∑ k ∈ range 62, (if 61 ≤ j + k then f (j + k - 61) else 0) = ∑ i ∈ range (j + 1), f i := by
  have e : 62 = (61 - j) + (j + 1) := by omega
  rw [e, Finset.sum_range_add, Finset.sum_eq_zero, zero_add]
  · refine Finset.sum_congr rfl fun i _ => ?_
    rw [if_pos (by omega)]
    congr 1
    omega
  · intro k hk
    rw [Finset.mem_range] at hk
    rw [if_neg (by omega)]

/-- The running sum of a row of reals. -/
theorem running_sum {n : ℕ} {u : Shape} (x : FVec Ideal ⟨2, ![n, 62]⟩ .f32) (v : FVec Ideal u .f32)
    (h : (⟨2, ![n, 62]⟩ : Shape).ReduceWindows (![1, 62] : Fin 2 → Nat) ![1, 1] ![0, 61] ![0, 0] ⟨2, ![n, 62]⟩) (hu : 0 < u.numel)
    (hv : v (Shape.Idx.first hu) = 0) (r : Fin n) (f : ℕ → ℝ) (hf : ∀ i : Fin 62, x (ix2 r i) = ((f i : ℝ) : EReal)) (j : Fin 62) :
    Host.reduceWindowAdd ![1, 62] ![1, 1] ![0, 61] ![0, 0] x v h hu (ix2 r j) = ((∑ i ∈ range (j.val + 1), f i : ℝ) : EReal) := by
  have hsum : ((∑ i ∈ range (j.val + 1), f i : ℝ) : EReal) = ∑ i ∈ range (j.val + 1), ((f i : ℝ) : EReal) := by
    induction range (j.val + 1) using Finset.induction_on with
    | empty => simp
    | insert a s ha ih => rw [Finset.sum_insert ha, Finset.sum_insert ha, EReal.coe_add, ih]
  rw [hsum, ← window_sum (fun i => ((f i : ℝ) : EReal)) j.val j.isLt]
  let G : (⟨2, ![1, 62]⟩ : Shape).Idx → EReal := fun q =>
    @dite EReal (∀ a : Fin 2, (![0, 61] : Fin 2 → ℕ) a ≤ (ix2 r j a).val * (![1, 1] : Fin 2 → ℕ) a + (q a).val
        ∧ (ix2 r j a).val * (![1, 1] : Fin 2 → ℕ) a + (q a).val - (![0, 61] : Fin 2 → ℕ) a < (⟨2, ![n, 62]⟩ : Shape).size a)
      (Nat.decidableForallFin _) (fun hin => x (fun a => ⟨_, (hin a).2⟩)) (fun _ => v (Shape.Idx.first hu))
  have hG : ∀ (a : Fin 1) (k : Fin 62), G (ix2 a k) = if 61 ≤ j.val + k.val then ((f (j.val + k.val - 61) : ℝ) : EReal) else 0 := by
    intro a k
    by_cases hk : 61 ≤ j.val + k.val
    · have hin : ∀ b : Fin 2, (![0, 61] : Fin 2 → ℕ) b ≤ (ix2 r j b).val * (![1, 1] : Fin 2 → ℕ) b + (ix2 a k b).val
          ∧ (ix2 r j b).val * (![1, 1] : Fin 2 → ℕ) b + (ix2 a k b).val - (![0, 61] : Fin 2 → ℕ) b < (⟨2, ![n, 62]⟩ : Shape).size b := by
        intro b
        fin_cases b
        · exact ⟨Nat.zero_le _, by show r.val * 1 + a.val - 0 < n; omega⟩
        · exact ⟨by show 61 ≤ j.val * 1 + k.val; omega, by show j.val * 1 + k.val - 61 < 62; omega⟩
      rw [if_pos hk, ← hf ⟨j.val + k.val - 61, by omega⟩]
      refine (dif_pos hin).trans (congrArg x (funext fun b => Fin.ext ?_))
      fin_cases b
      · show r.val * 1 + a.val - 0 = r.val
        omega
      · show j.val * 1 + k.val - 61 = j.val + k.val - 61
        omega
    · rw [if_neg hk]
      refine (dif_neg fun hin => hk ?_).trans hv
      have := (hin 1).1
      have h' : 61 ≤ j.val * 1 + k.val := this
      omega
  have e : Host.reduceWindowAdd ![1, 62] ![1, 1] ![0, 61] ![0, 0] x v h hu (ix2 r j)
      = (List.finRange (⟨2, ![1, 62]⟩ : Shape).numel).foldl (fun s m => s + G ((⟨2, ![1, 62]⟩ : Shape).rowMajor.symm m)) (v (Shape.Idx.first hu)) := rfl
  rw [e, foldl_add, hv, zero_add, ← Fin.sum_univ_def, Equiv.sum_comp (⟨2, ![1, 62]⟩ : Shape).rowMajor.symm G, sum_idx2, Fin.sum_univ_one,
    Finset.sum_range]
  exact Finset.sum_congr rfl fun k _ => hG 0 k

/-! ## Counts -/

/-- The number of places of the last axis where a bit is set. -/
theorem count {n m : ℕ} {u : Shape} (b : IVec ⟨3, ![n, m, 63]⟩ 1) (v : IVec u 32) (hu : 0 < u.numel)
    (h : (⟨3, ![n, m, 63]⟩ : Shape).ReducesTo [2] ⟨2, ![n, m]⟩) (hw : 1 < 32) (hv : v (Shape.Idx.first hu) = 0#32) (r : Fin n) (j : Fin m) :
    Host.reduce IntOp.addi (extui 32 b hw) v h hu (ix2 r j)
      = BitVec.ofNat 32 (univ.filter fun k : Fin 63 => b (ix3 r j k) = 1#1).card := by
  rw [← IndicatorCount.fold_addi_setWidth_eq_card]
  pointwise
  rw [hv]

/-- A test over an axis of length one is the test at its one place. -/
theorem all_one {n m : ℕ} {u : Shape} (b : IVec ⟨3, ![n, m, 1]⟩ 1) (v : IVec u 1) (hu : 0 < u.numel)
    (h : (⟨3, ![n, m, 1]⟩ : Shape).ReducesTo [2] ⟨2, ![n, m]⟩) (hv : v (Shape.Idx.first hu) = 1#1) (r : Fin n) (j : Fin m)
    (hb : b (ix3 r j 0) = 1#1) : Host.reduce IntOp.andi b v h hu (ix2 r j) = 1#1 := by
  pointwise
  rw [univ_unique, Finset.fold_singleton, hv]
  show IntOp.andi (b (ix3 r j 0)) 1#1 = 1#1
  rw [hb]
  rfl

/-! ## Sorted rows -/

theorem comparator_eq (l r : EReal) : (comparator_f32_d1 (F := Ideal) l r == 1#1) = decide (l < r) := by
  unfold comparator_f32_d1
  pointwise
  have h0 : ∀ y : EReal, (if y ≠ y then Ideal.ofBits FTy.f32 2143289344#32 else if y = 0 then 0 else y) = y := by
    intro y
    rw [if_neg (by simp)]
    split_ifs with hy
    · exact hy.symm
    · rfl
  rw [h0, h0]
  show (Ideal.cmp .olt l r == 1#1) = decide (l < r)
  by_cases h : l < r <;> simp [Ideal.cmp, h]

/-- A sorted row ascends and holds the entries of the row it sorts. -/
theorem sorted_row (x : FVec Ideal S65536x192 .f32) (r : Fin 65536) :
    (Monotone fun c : Fin 192 => Host.sort S65536x192 1 comparator_f32_d1 x (ix2 r c))
      ∧ ∃ σ : Equiv.Perm (Fin 192), ∀ c : Fin 192, Host.sort S65536x192 1 comparator_f32_d1 x (ix2 r c) = x (ix2 r (σ c)) := by
  let B : Fin 192 → Fin 192 → Bool := fun k k' => decide (x (ix2 r k) < x (ix2 r k'))
  have hal : ∀ c k : Fin 192, (ix2 r c : S65536x192.Idx).along 1 k = ix2 r k := by
    intro c k
    funext a
    fin_cases a <;> rfl
  have e : ∀ c : Fin 192, Host.sort S65536x192 1 comparator_f32_d1 x (ix2 r c) = x (ix2 r (sortedFrom B c)) := by
    intro c
    have hB : (fun k k' : Fin 192 => comparator_f32_d1 (F := Ideal) (x ((ix2 r c : S65536x192.Idx).along 1 k)) (x ((ix2 r c : S65536x192.Idx).along 1 k')) == 1#1) = B := by
      funext k k'
      rw [hal, hal, comparator_eq]
    show x ((ix2 r c : S65536x192.Idx).along 1 (sortedFrom (fun k k' : Fin 192 => comparator_f32_d1 (F := Ideal) (x ((ix2 r c : S65536x192.Idx).along 1 k)) (x ((ix2 r c : S65536x192.Idx).along 1 k')) == 1#1) c)) = _
    exact (congrArg x (hal c _)).trans (congrArg (fun R => x (ix2 r (sortedFrom R c))) hB)
  refine ⟨fun i j hij => ?_, Equiv.ofBijective (sortedFrom B) ⟨sortedFrom_injective B, sortedFrom_surjective B⟩,
    fun c => (e c).trans (congrArg (fun k => x (ix2 r k)) (Equiv.ofBijective_apply (sortedFrom B) _ c).symm)⟩
  show Host.sort S65536x192 1 comparator_f32_d1 x (ix2 r i) ≤ Host.sort S65536x192 1 comparator_f32_d1 x (ix2 r j)
  rw [e, e]
  rcases eq_or_lt_of_le hij with rfl | hlt
  · exact le_refl _
  · have : B (sortedFrom B j) (sortedFrom B i) = false := sortedFrom_noInversion B B (fun a b h => by simp only [B, decide_eq_true_eq, decide_eq_false_iff_not] at *; exact not_lt.2 h.le)
      (fun a b h => h) (fun a b c h h' => by simp only [B, decide_eq_false_iff_not, not_lt] at *; exact h'.trans h) i j hlt
    simpa only [B, decide_eq_false_iff_not, not_lt] using this

/-! ## Look-ups -/

/-- Where the look-up finds the column number for ray `r` and level `j`. -/
theorem start_index (r : Fin 65536) (j : Fin 128) (h) : GatherDims.siIdx gather_S65536x63_S65536x128x1_S65536x128_n_1_0_0_1_2_11 (ix2 r j) ⟨List.idxOf (1 : Fin 2) (GatherDims.startIndexMap gather_S65536x63_S65536x128x1_S65536x128_n_1_0_0_1_2_11), h⟩ = ix3 r j 0 := by
  funext b
  fin_cases b <;> rfl

/-- A look-up in a row at a column number that is in range. -/
theorem gather_row (x : FVec Ideal S65536x63 .f32) (idx : IVec S65536x128x1 32) (r : Fin 65536) (j : Fin 128) (k : Fin 63)
    (hk : idx (ix3 r j 0) = BitVec.ofNat 32 k.val) : Host.gather gather_S65536x63_S65536x128x1_S65536x128_n_1_0_0_1_2_11 x idx (ix2 r j) = x (ix2 r k) := by
  unfold Host.gather
  refine congrArg x (funext fun a => Fin.ext ?_)
  show GatherDims.start gather_S65536x63_S65536x128x1_S65536x128_n_1_0_0_1_2_11 (ix2 r j) idx a + GatherDims.batchCoord gather_S65536x63_S65536x128x1_S65536x128_n_1_0_0_1_2_11 (ix2 r j) a + GatherDims.offCoord gather_S65536x63_S65536x128x1_S65536x128_n_1_0_0_1_2_11 (ix2 r j) a = _
  have ha : a = 0 ∨ a = 1 := by fin_cases a <;> simp
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ GatherDims.operandBatchingDims gather_S65536x63_S65536x128x1_S65536x128_n_1_0_0_1_2_11 from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    rw [dif_pos (show (1 : Fin 2) ∈ GatherDims.startIndexMap gather_S65536x63_S65536x128x1_S65536x128_n_1_0_0_1_2_11 from List.mem_singleton.mpr rfl), start_index, hk]
    show min (BitVec.ofNat 32 k.val).toInt.toNat (63 - 1) = k.val
    rw [BitVec.toInt_eq_toNat_of_lt (by rw [BitVec.toNat_ofNat, Nat.mod_eq_of_lt (by omega)]; omega), BitVec.toNat_ofNat, Nat.mod_eq_of_lt (by omega)]
    omega

end Cert.Proof.Reads

end
-- ==== Proof.Reference.lean ====
/-
  The reference's arrays, ray by ray: the midpoints, the running sums, the levels, the bins they fall in, and the
  samples looked up there.
-/
module

public import proofs.«01_k».proof.Proof.Reads
public import proofs.«01_k».proof.Proof.Ray

@[expose] public section

noncomputable section

namespace Cert.Proof.Reference

open Cert.ReferenceIdeal Cert.ReferenceIdeal.Gen Cert.ReferenceIdeal.Value Idealize.ShloMosaic Finset
open Cert.Proof.Ray Cert.Proof.Sampling

/-- The depths the reference starts from. -/
abbrev depths (V : Valuation τ sig (Elt Ideal)) : FVec Ideal S65536x64 .f32 := V (Proc.devRef .tc main_arg2)
/-- The weights it starts from. -/
abbrev weights (V : Valuation τ sig (Elt Ideal)) : FVec Ideal S65536x64 .f32 := V (Proc.devRef .tc main_arg3)

variable (V : Valuation τ sig (Elt Ideal)) (r : Fin 65536) (z w : ℕ → ℝ)

/-- The ray's row of depths and of weights is sound. -/
abbrev RowSound : Prop := Sound (fun i => depths V (ix2 r i)) (fun i => weights V (ix2 r i)) z w

variable {V r z w}

theorem v4_apply (h : RowSound V r z w) (i : Fin 63) : (res_main_v4 V : FVec Ideal S65536x63 .f32) (ix2 r i) = ((mid z i : ℝ) : EReal) := by
  have e0 : V (Proc.devRef .tc main_arg2) (ix2 r (⟨i.val, by omega⟩ : Fin 64)) = ((z i : ℝ) : EReal) := h.hz ⟨i.val, by omega⟩
  have e1 : V (Proc.devRef .tc main_arg2) (ix2 r (⟨1 + i.val, by omega⟩ : Fin 64)) = ((z (i + 1) : ℝ) : EReal) := by
    rw [Nat.add_comm i.val 1]
    exact h.hz ⟨1 + i.val, by omega⟩
  pointwise [res_main_v4]
  refine (congrArg₂ (fun a b : EReal => Ideal.ofBits .f32 0x3F000000#32 * (a + b)) e1 e0).trans ?_
  show Ideal.ofBits .f32 0x3F000000#32 * _ = _
  rw [ofBits_half, ← EReal.coe_add, ← EReal.coe_mul]
  rfl

theorem v7_apply (h : RowSound V r z w) (i : Fin 62) : (res_main_v7 V : FVec Ideal S65536x62 .f32) (ix2 r i) = ((w i : ℝ) : EReal) := by
  have e : (⟨1 + i.val, by omega⟩ : Fin 64) = ⟨i.val + 1, by omega⟩ := Fin.ext (Nat.add_comm _ _)
  rw [← h.hw i, ← e]
  pointwise [res_main_v7]

theorem v12_apply (h : RowSound V r z w) (i : Fin 62) : (res_main_v12 V : FVec Ideal S65536x62 .f32) (ix2 r i) = ((cum (mass w) (i + 1) : ℝ) : EReal) := by
  unfold res_main_v12
  refine Reads.running_sum _ _ _ _ ?_ r (mass w) (fun j => ?_) i
  · pointwise
  · pointwise
    have e : ∀ f : Fin 62 → EReal, (∀ k, f k = ((w k : ℝ) : EReal)) → ∑ k, f k = ((∑ k ∈ range 62, w k : ℝ) : EReal) := by
      intro f hf
      rw [coe_sum, Finset.sum_range]
      exact Finset.sum_congr rfl fun k _ => hf k
    refine (congrArg₂ Ideal.div (v7_apply h j) (e _ fun k => v7_apply h k)).trans ?_
    rw [div_real _ h.total]
    rfl

theorem v15_apply (h : RowSound V r z w) (i : Fin 63) : (res_main_v15 V : FVec Ideal S65536x63 .f32) (ix2 r i) = ((cum (mass w) i : ℝ) : EReal) := by
  pointwise [res_main_v15]
  by_cases hi : i.val < 1
  · rw [dif_pos hi]
    obtain rfl : i = 0 := Fin.ext (by simpa using hi)
    simp [cum]
  · rw [dif_neg hi]
    refine (v12_apply h ⟨i.val - 1, by omega⟩).trans ?_
    show ((cum (mass w) (i.val - 1 + 1) : ℝ) : EReal) = _
    rw [Nat.sub_add_cancel (by omega)]

/-- One entry of the evenly spaced levels. -/
theorem spaced (j : ℕ) (hj : j < 127) :
    (0 : EReal) * (1 - Ideal.div (FloatOps.sitofp (F := Ideal) .f32 (BitVec.ofNat 32 j)) (Ideal.ofBits .f32 0x42FE0000#32))
      + Ideal.div (FloatOps.sitofp (F := Ideal) .f32 (BitVec.ofNat 32 j)) (Ideal.ofBits .f32 0x42FE0000#32) = ((level j : ℝ) : EReal) := by
  have e : FloatOps.sitofp (F := Ideal) .f32 (BitVec.ofNat 32 j) = ((j : ℝ) : EReal) := by
    show (((BitVec.ofNat 32 j).toInt : ℝ) : EReal) = _
    rw [BitVec.toInt_eq_toNat_of_lt (by rw [BitVec.toNat_ofNat, Nat.mod_eq_of_lt (by omega)]; omega), BitVec.toNat_ofNat, Nat.mod_eq_of_lt (by omega)]
    norm_cast
  rw [e, ofBits_127, div_real _ (by norm_num), zero_mul, zero_add]
  rfl

theorem v17_apply (j : Fin 128) : (res_main_v17 V : FVec Ideal S65536x128 .f32) (ix2 r j) = ((level j : ℝ) : EReal) := by
  pointwise [res_main_v17, res_main_call1_v0, res_main_call1_v1, res_main_call1_v6, id]
  split_ifs with hj
  · exact spaced j hj
  · have : j.val = 127 := by omega
    rw [this]
    simp [level]

theorem bit_le (a b : EReal) : BitVec.ofBool (decide (a ≤ b)) = 1#1 ↔ a ≤ b := by
  by_cases h : a ≤ b <;> simp [h]

theorem sub_at {s : Shape} (x y : FVec Ideal s .f32) (i : s.Idx) : (subf x y i : EReal) = (show EReal from x i) - (show EReal from y i) := rfl

theorem v24_apply (h : RowSound V r z w) (j : Fin 128) :
    (res_main_v24 V : IVec S65536x128 32) (ix2 r j) = BitVec.ofNat 32 (below (mass w) (level j)) := by
  unfold res_main_v24
  rw [Reads.count]
  · refine congrArg (BitVec.ofNat 32) ?_
    have e : ∀ k : Fin 63, cmpf .ole (broadcastInDim S65536x128x63 ![0, 1, 2] bcast_S65536x1x63_S65536x128x63_0_1_2 (broadcastInDim S65536x1x63 ![0, 2] bcast_S65536x63_S65536x1x63_0_2 (res_main_v15 V))) (broadcastInDim S65536x128x63 ![0, 1, 2] bcast_S65536x128x1_S65536x128x63_0_1_2 (broadcastInDim S65536x128x1 ![0, 1] bcast_S65536x128_S65536x128x1_0_1 (res_main_v17 V))) (ix3 r j k) = 1#1
        ↔ cum (mass w) k ≤ level j := by
      intro k
      pointwise
      refine (bit_le _ _).trans ?_
      rw [show (res_main_v15 V (ix2 r k) : EReal) = _ from v15_apply h k, show (res_main_v17 V (ix2 r j) : EReal) = _ from v17_apply j, EReal.coe_le_coe_iff]
    simp only [e]
    unfold below
    rw [← Finset.card_map ⟨Fin.val, Fin.val_injective⟩]
    refine congrArg Finset.card (Finset.ext fun k => ?_)
    simp only [mem_map, mem_filter, mem_univ, true_and, Function.Embedding.coeFn_mk, mem_range]
    exact ⟨fun ⟨a, ha, hk⟩ => hk ▸ ⟨a.isLt, ha⟩, fun ⟨hk, hc⟩ => ⟨⟨k, hk⟩, hc, rfl⟩⟩
  · pointwise

/-- Below the top knot and at least at the first, a word's clipping at both ends is the number's. -/
theorem clip_words : ∀ n : Fin 64, 1 ≤ n.val →
    IntOp.maxsi 0#32 (IntOp.subi (BitVec.ofNat 32 n.val) 1#32) = BitVec.ofNat 32 (n.val - 1)
      ∧ IntOp.minsi (IntOp.muli 62#32 1#32) (BitVec.ofNat 32 n.val) = BitVec.ofNat 32 (min 62 n.val) := by
  decide

/-- Column numbers as the look-up takes them, counted from the row's end where negative. -/
def column (idx : IVec S65536x128 32) : IVec S65536x128x1 32 :=
  shapeCast _ (select (cmpi .slt idx (broadcastInDim S65536x128 ![] bcast_S_S65536x128 (constantI S_ 32 0#32))) (addi idx (broadcastInDim S65536x128 ![] bcast_S_S65536x128 (constantI S_ 32 63#32))) idx) shapeCasts_S65536x128_S65536x128x1

theorem nonneg_word : ∀ k : Fin 63, Scalar.select (IntOp.cmpi .slt (BitVec.ofNat 32 k.val) 0#32) (IntOp.addi (BitVec.ofNat 32 k.val) 63#32)
    (BitVec.ofNat 32 k.val) = BitVec.ofNat 32 k.val := by
  decide

theorem in_range : ∀ k : Fin 63, IntOp.andi (IntOp.cmpi .sge (BitVec.ofNat 32 k.val) 0#32) (IntOp.cmpi .sle (BitVec.ofNat 32 k.val) 62#32) = 1#1 := by
  decide

theorem column_apply (idx : IVec S65536x128 32) (j : Fin 128) (k : Fin 63) (hk : idx (ix2 r j) = BitVec.ofNat 32 k.val) :
    column idx (ix3 r j 0) = BitVec.ofNat 32 k.val := by
  pointwise [column]
  rw [hk]
  exact nonneg_word k

/-- A row's entries at given column numbers, a marked value where one is out of range. -/
def pick (x : FVec Ideal S65536x63 .f32) (idx : IVec S65536x128 32) : FVec Ideal S65536x128 .f32 :=
  select (Host.reduce IntOp.andi (andi (cmpi .sge (column idx) (broadcastInDim S65536x128x1 ![] bcast_S_S65536x128x1 (constantI S_ 32 0#32))) (cmpi .sle (column idx) (broadcastInDim S65536x128x1 ![0, 1, 2] bcast_S1x1x1_S65536x128x1_0_1_2 (broadcastInDim S1x1x1 ![2] bcast_S1_S1x1x1_2 (constantI S1 32 62#32))))) (constantI S_ 1 1#1) reducesTo_S65536x128x1_S65536x128_d2 h_S_) (Host.gather gather_S65536x63_S65536x128x1_S65536x128_n_1_0_0_1_2_11 x (column idx)) (broadcastInDim S65536x128 ![] bcast_S_S65536x128 (constant S_ .f32 0x7FC00000#32))

theorem select_one {s : Shape} {α : Type} (c : IVec s 1) (a b : s.Idx → α) (i : s.Idx) (h : c i = 1#1) : select c a b i = a i := by
  unfold select Scalar.select
  rw [h]
  rfl

theorem pick_apply (x : FVec Ideal S65536x63 .f32) (idx : IVec S65536x128 32) (j : Fin 128) (k : Fin 63) (hk : idx (ix2 r j) = BitVec.ofNat 32 k.val) :
    pick x idx (ix2 r j) = x (ix2 r k) := by
  have hc := column_apply idx j k hk
  have hall : Host.reduce IntOp.andi (andi (cmpi .sge (column idx) (broadcastInDim S65536x128x1 ![] bcast_S_S65536x128x1 (constantI S_ 32 0#32))) (cmpi .sle (column idx) (broadcastInDim S65536x128x1 ![0, 1, 2] bcast_S1x1x1_S65536x128x1_0_1_2 (broadcastInDim S1x1x1 ![2] bcast_S1_S1x1x1_2 (constantI S1 32 62#32))))) (constantI S_ 1 1#1) reducesTo_S65536x128x1_S65536x128_d2 h_S_ (ix2 r j) = 1#1 := by
    refine Reads.all_one _ _ _ _ rfl r j ?_
    show IntOp.andi (IntOp.cmpi .sge (column idx (ix3 r j 0)) 0#32) (IntOp.cmpi .sle (column idx (ix3 r j 0)) 62#32) = 1#1
    rw [hc]
    exact in_range k
  unfold pick
  rw [select_one _ _ _ _ hall]
  exact Reads.gather_row x (column idx) r j k hc

theorem v35_eq : res_main_v35 V = pick (res_main_v15 V) (res_main_v30 V) := rfl
theorem v37_eq : res_main_v37 V = pick (res_main_v4 V) (res_main_v30 V) := rfl
theorem v39_eq : res_main_v39 V = subf (pick (res_main_v15 V) (res_main_v34 V)) (res_main_v35 V) := rfl

/-- The reference's samples. -/
def samples (V : Valuation τ sig (Elt Ideal)) : FVec Ideal S65536x128 .f32 :=
  addf (res_main_v37 V) (mulf (Host.divf (subf (res_main_v17 V) (res_main_v35 V)) (select (cmpf .olt (res_main_v39 V) (broadcastInDim S65536x128 ![] bcast_S_S65536x128 (constant S_ .f32 0x3727C5AC#32))) (broadcastInDim S65536x128 ![] bcast_S_S65536x128 (constant S_ .f32 0x3F800000#32)) (res_main_v39 V))) (subf (pick (res_main_v4 V) (res_main_v34 V)) (res_main_v37 V)))

theorem below_pos {p : ℕ → ℝ} {u : ℝ} (h : 0 ≤ u) : 1 ≤ below p u :=
  Finset.card_pos.mpr ⟨0, mem_filter.mpr ⟨mem_range.mpr (by omega), by simpa [cum] using h⟩⟩

theorem below_le (p : ℕ → ℝ) (u : ℝ) : below p u ≤ 63 :=
  (Finset.card_filter_le _ _).trans_eq (Finset.card_range _)

theorem v30_apply (h : RowSound V r z w) (j : Fin 128) :
    (res_main_v30 V : IVec S65536x128 32) (ix2 r j) = BitVec.ofNat 32 (below (mass w) (level j) - 1) := by
  pointwise [res_main_v30]
  rw [show (res_main_v24 V (ix2 r j) : BitVec 32) = _ from v24_apply h j]
  exact (clip_words ⟨below (mass w) (level j), Nat.lt_succ_of_le (below_le _ _)⟩ (below_pos (level_nonneg j))).1

theorem v34_apply (h : RowSound V r z w) (j : Fin 128) :
    (res_main_v34 V : IVec S65536x128 32) (ix2 r j) = BitVec.ofNat 32 (min 62 (below (mass w) (level j))) := by
  pointwise [res_main_v34]
  rw [show (res_main_v24 V (ix2 r j) : BitVec 32) = _ from v24_apply h j]
  exact (clip_words ⟨below (mass w) (level j), Nat.lt_succ_of_le (below_le _ _)⟩ (below_pos (level_nonneg j))).2

/-- A test of one real against another, and the choice it makes. -/
theorem choice (a b : ℝ) (x y : ℝ) : (if (a : EReal) < (b : EReal) then (x : EReal) else (y : EReal)) = ((if a < b then x else y : ℝ) : EReal) := by
  simp only [EReal.coe_lt_coe_iff]
  split_ifs <;> rfl

theorem width_ne {p : ℕ → ℝ} {s : ℝ} (hs : 0 < s) (lo hi : ℕ) : width p s lo hi ≠ 0 := by
  unfold width
  split_ifs with h
  · exact one_ne_zero
  · exact (lt_of_lt_of_le hs (not_lt.1 h)).ne'

/-- The interpolation, entry by entry. -/
theorem interpolate (a b c t u : FVec Ideal S65536x128 .f32) (r : Fin 65536) (j : Fin 128) :
    addf a (mulf (Host.divf (subf u c) (select (cmpf .olt t (broadcastInDim S65536x128 ![] bcast_S_S65536x128 (constant S_ .f32 0x3727C5AC#32)))
      (broadcastInDim S65536x128 ![] bcast_S_S65536x128 (constant S_ .f32 0x3F800000#32)) t)) (subf b a)) (ix2 r j)
    = (a (ix2 r j) : EReal) + Ideal.div ((u (ix2 r j) : EReal) - (c (ix2 r j) : EReal))
        (if (t (ix2 r j) : EReal) < Ideal.ofBits .f32 0x3727C5AC#32 then (1 : EReal) else t (ix2 r j)) * ((b (ix2 r j) : EReal) - (a (ix2 r j) : EReal)) := by
  pointwise

theorem samples_apply (h : RowSound V r z w) (j : Fin 128) : samples V (ix2 r j) = ((sample z w j : ℝ) : EReal) := by
  have hb := below_le (mass w) (level j)
  have hb1 := below_pos (p := mass w) (level_nonneg j)
  have h30 := v30_apply h j
  have h34 := v34_apply h j
  rw [sample_eq h j.isLt]
  unfold lookup
  generalize below (mass w) (level j) = n at *
  obtain ⟨lo, hlo⟩ : ∃ k : Fin 63, k.val = n - 1 := ⟨⟨n - 1, by omega⟩, rfl⟩
  obtain ⟨hi, hhi⟩ : ∃ k : Fin 63, k.val = min 62 n := ⟨⟨min 62 n, by omega⟩, rfl⟩
  rw [← hlo] at h30
  rw [← hhi] at h34
  rw [← hlo, ← hhi]
  have e35 : (res_main_v35 V (ix2 r j) : EReal) = ((cum (mass w) lo : ℝ) : EReal) := by
    rw [v35_eq, pick_apply _ _ j lo h30]
    exact v15_apply h lo
  have e37 : (res_main_v37 V (ix2 r j) : EReal) = ((mid z lo : ℝ) : EReal) := by
    rw [v37_eq, pick_apply _ _ j lo h30]
    exact v4_apply h lo
  have e36 : pick (res_main_v15 V) (res_main_v34 V) (ix2 r j) = ((cum (mass w) hi : ℝ) : EReal) :=
    (pick_apply _ _ j hi h34).trans (v15_apply h hi)
  have e38 : pick (res_main_v4 V) (res_main_v34 V) (ix2 r j) = ((mid z hi : ℝ) : EReal) :=
    (pick_apply _ _ j hi h34).trans (v4_apply h hi)
  have e39 : (res_main_v39 V (ix2 r j) : EReal) = ((cum (mass w) hi - cum (mass w) lo : ℝ) : EReal) := by
    rw [v39_eq, sub_at, e36, EReal.coe_sub, ← e35]
  have e17 : (res_main_v17 V (ix2 r j) : EReal) = ((level j : ℝ) : EReal) := v17_apply j
  have eW := choice (cum (mass w) hi - cum (mass w) lo) short 1 (cum (mass w) hi - cum (mass w) lo)
  rw [EReal.coe_one] at eW
  refine (interpolate (res_main_v37 V) (pick (res_main_v4 V) (res_main_v34 V)) (res_main_v35 V) (res_main_v39 V) (res_main_v17 V) r j).trans ?_
  rw [e17, e35, e37, e38, e39, ofBits_short]
  refine (congrArg (fun x : EReal => ((mid z lo : ℝ) : EReal) + Ideal.div (((level j : ℝ) : EReal) - ((cum (mass w) lo : ℝ) : EReal)) x
    * (((mid z hi : ℝ) : EReal) - ((mid z lo : ℝ) : EReal))) eW).trans ?_
  have hw := width_ne (p := mass w) short_pos lo hi
  unfold width at hw ⊢
  rw [← EReal.coe_sub, ← EReal.coe_sub, div_real _ hw, ← EReal.coe_mul, ← EReal.coe_add]

end Cert.Proof.Reference

end
-- ==== Proof.Result.lean ====
/-
  The reference's two results, ray by ray: the merged depths and the points along the ray.
-/
module

public import proofs.«01_k».proof.Proof.Reference
public import proofs.«01_k».proof.Proof.Bitonic

@[expose] public section

noncomputable section

namespace Cert.Proof.Result

open Cert.ReferenceIdeal Cert.ReferenceIdeal.Gen Cert.ReferenceIdeal.Value Idealize.ShloMosaic Finset
open Cert.Proof.Ray Cert.Proof.Sampling Cert.Proof.Reference

variable (V : Valuation τ sig (Elt Ideal))

/-- The depths and the samples side by side. -/
def both : FVec Ideal S65536x192 .f32 :=
  concatenate S65536x192 1 [⟨S65536x64, depths V⟩, ⟨S65536x128, samples V⟩] concatenates_S65536x64_S65536x128_S65536x192_d1

/-- The reference's merged depths. -/
def zall : FVec Ideal S65536x192 .f32 := Host.sort S65536x192 1 comparator_f32_d1 (both V)

/-- The merged depths of a ray, as the merge network gives them. -/
def line (z w : ℕ → ℝ) (l : ℕ) : EReal :=
  Bitonic.stages 8 (Bitonic.padded (fun i => (z i : EReal)) (fun j => (sample z w j : EReal))) l

variable {V} {r : Fin 65536} {z w : ℕ → ℝ}

theorem both_apply (h : RowSound V r z w) (l : Fin 192) :
    both V (ix2 r l) = Bitonic.joined (fun i => (z i : EReal)) (fun j => (sample z w j : EReal)) l := by
  unfold both Bitonic.joined
  pointwise
  by_cases hl : l.val < 64
  · rw [dif_pos hl, if_pos hl]
    exact h.hz ⟨l.val, hl⟩
  · rw [dif_neg hl, if_neg hl]
    exact samples_apply h ⟨l.val - 64, by omega⟩

theorem zall_apply (h : RowSound V r z w) (l : Fin 192) : zall V (ix2 r l) = line z w l := by
  obtain ⟨hm, σ, hσ⟩ := Reads.sorted_row (both V) r
  refine (Bitonic.merge_eq_sorted (fun i => (z i : EReal)) (fun j => (sample z w j : EReal)) ?_ ?_ _ hm σ (fun i => ?_) l).symm
  · intro i j hij hj
    exact EReal.coe_le_coe_iff.2 (by
      induction j, hij using Nat.le_induction with
      | base => exact le_refl _
      | succ n hn ih => exact (ih (by omega)).trans (h.sorted n (by omega)))
  · intro i j hij _
    exact EReal.coe_le_coe_iff.2 (sample_mono h hij)
  · exact (hσ i).trans (both_apply h (σ i))

/-- The merged depths are numbers. -/
theorem line_real (h : RowSound V r z w) (l : Fin 192) : ∃ x : ℝ, line z w l = (x : EReal) := by
  obtain ⟨hm, σ, hσ⟩ := Reads.sorted_row (both V) r
  rw [← zall_apply h l]
  unfold zall
  rw [hσ l, both_apply h]
  unfold Bitonic.joined
  split_ifs
  · exact ⟨_, rfl⟩
  · exact ⟨_, rfl⟩

/-- The points along each ray, three coordinates to a depth, laid out in one row. -/
def points (o d : FVec Ideal S65536x3 .f32) (x : FVec Ideal S65536x192 .f32) : FVec Ideal S65536x576 .f32 :=
  shapeCast _ (addf (broadcastInDim S65536x192x3 ![0, 1, 2] bcast_S65536x1x3_S65536x192x3_0_1_2 (broadcastInDim S65536x1x3 ![0, 2] bcast_S65536x3_S65536x1x3_0_2 o)) (mulf (broadcastInDim S65536x192x3 ![0, 1, 2] bcast_S65536x1x3_S65536x192x3_0_1_2 (broadcastInDim S65536x1x3 ![0, 2] bcast_S65536x3_S65536x1x3_0_2 d)) (broadcastInDim S65536x192x3 ![0, 1, 2] bcast_S65536x192x1_S65536x192x3_0_1_2 (broadcastInDim S65536x192x1 ![0, 1] bcast_S65536x192_S65536x192x1_0_1 x)))) shapeCasts_S65536x192x3_S65536x576

theorem points_apply (o d : FVec Ideal S65536x3 .f32) (x : FVec Ideal S65536x192 .f32) (r : Fin 65536) (q : Fin 576) :
    points o d x (ix2 r q) = o (ix2 r ⟨q.val % 3, by omega⟩) + d (ix2 r ⟨q.val % 3, by omega⟩) * x (ix2 r ⟨q.val / 3, by omega⟩) := by
  pointwise [points]

end Cert.Proof.Result

end
-- ==== Proof.Points.lean ====
/-
  What a block of the kernel writes to its two outputs, one ray at a time: the merged depths, and the points along the
  ray. The kernel spreads the depths three to one by a product with a matrix of zeros and ones, and picks a coordinate
  by comparing a column's number modulo three.
-/
module

public import proofs.«01_k».proof.Proof.Block
public import proofs.«01_k».proof.Proof.Result

@[expose] public section

set_option maxRecDepth 16384

noncomputable section

namespace Cert.Proof.Points

open Cert.KernelIdeal Cert.KernelIdeal.Gen Idealize.ShloMosaic Cert.Proof.Loop Cert.Proof.Ray Cert.Proof.Sampling Finset

/-! ## The depths, three to one -/

/-- The word the kernel computes for a column's number divided by three, rounded down. -/
def third (n : ℕ) : BitVec 32 :=
  Scalar.select (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi .sgt 3#32 0#32)) (Scalar.extui (Scalar.cmpi .slt 3#32 0#32))))
      (IntOp.cmpi CmpIPredicate.ne (IntOp.remsi .vector (BitVec.ofNat 32 n) 3#32) 0#32))
    (IntOp.subi (IntOp.divsi .vector (BitVec.ofNat 32 n) 3#32) 1#32) (IntOp.divsi .vector (BitVec.ofNat 32 n) 3#32)

theorem third_eq : ∀ l : Fin 576, third l.val = BitVec.ofNat 32 (l.val / 3) := by decide +kernel

/-- The product with the matrix of zeros and ones. -/
theorem spread_apply (w b a) (c) (r : Fin 512) (l : Fin 576) :
    k0_pay150 (F := Ideal) w b a c (ix2 r l)
      = ∑ x : Fin 192, k0_pay149 w b a c (ix2 r x)
          * FloatOps.sitofp (F := Ideal) .f32 (BitVec.setWidth 32 (IntOp.cmpi CmpIPredicate.eq (third l.val) (BitVec.ofNat 32 x.val))) := by
  pointwise [k0_pay150]
  rfl

theorem eq_bit (a b : ℕ) (ha : a < 576) (hb : b < 576) :
    BitVec.setWidth 32 (IntOp.cmpi CmpIPredicate.eq (BitVec.ofNat 32 a) (BitVec.ofNat 32 b)) = if a = b then 1#32 else 0#32 := by
  by_cases h : a = b
  · subst h
    simp [IntOp.cmpi]
  · have : BitVec.ofNat 32 a ≠ BitVec.ofNat 32 b := fun e => h (by
      have := congrArg BitVec.toNat e
      rw [BitVec.toNat_ofNat, BitVec.toNat_ofNat, Nat.mod_eq_of_lt (by omega), Nat.mod_eq_of_lt (by omega)] at this
      exact this)
    have hb : (BitVec.ofNat 32 a == BitVec.ofNat 32 b) = false := beq_eq_false_iff_ne.2 this
    simp [IntOp.cmpi, h, hb]

/-- A sum of numbers against one column of the matrix is the one number that column points at. -/
theorem one_hot (f : Fin 192 → EReal) (hf : ∀ x, ∃ y : ℝ, f x = (y : EReal)) (l : Fin 576) :
    ∑ x : Fin 192, f x * FloatOps.sitofp (F := Ideal) .f32
        (BitVec.setWidth 32 (IntOp.cmpi CmpIPredicate.eq (third l.val) (BitVec.ofNat 32 x.val)))
      = f ⟨l.val / 3, by omega⟩ := by
  have h (x : Fin 192) : f x * FloatOps.sitofp (F := Ideal) .f32
        (BitVec.setWidth 32 (IntOp.cmpi CmpIPredicate.eq (third l.val) (BitVec.ofNat 32 x.val)))
      = if x = ⟨l.val / 3, by omega⟩ then f x else 0 := by
    obtain ⟨y, hy⟩ := hf x
    rw [third_eq, eq_bit _ _ (by omega) (by omega), Block.sitofp_bit, hy, ← EReal.coe_mul]
    by_cases e : x = ⟨l.val / 3, by omega⟩
    · rw [if_pos e, if_pos (by rw [e]), mul_one]
    · rw [if_neg e, if_neg (fun e' => e (Fin.ext e'.symm)), mul_zero]
      rfl
  rw [sum_congr rfl fun x _ => h x, sum_ite_eq' univ (⟨l.val / 3, by omega⟩ : Fin 192) f, if_pos (mem_univ _)]

/-! ## A column's coordinate -/

/-- The word the kernel computes for a column's number modulo three. -/
theorem mod_eq : ∀ l : Fin 576, k0_pay152 (Scalar.select (Scalar.cmpi .eq 3#32 0#32) 1#32 3#32) k0_pay151 0#32 (ix2 0 l)
    = BitVec.ofNat 32 (l.val % 3) := by
  intro l
  pointwise [k0_pay152, k0_pay151]
  revert l
  decide +kernel

/-- Picking among three by comparisons is picking by number. -/
theorem pick_three {α : Type} (f : Fin 3 → α) (l : Fin 576) :
    Scalar.select (IntOp.cmpi CmpIPredicate.eq (BitVec.ofNat 32 (l.val % 3)) 0#32) (f 0)
      (Scalar.select (IntOp.cmpi CmpIPredicate.eq (BitVec.ofNat 32 (l.val % 3)) 1#32) (f 1) (f 2)) = f ⟨l.val % 3, by omega⟩ := by
  have h : ∀ k : Fin 3, Scalar.select (IntOp.cmpi CmpIPredicate.eq (BitVec.ofNat 32 k.val) 0#32) (f 0)
      (Scalar.select (IntOp.cmpi CmpIPredicate.eq (BitVec.ofNat 32 k.val) 1#32) (f 1) (f 2)) = f k := by
    intro k
    fin_cases k <;> rfl
  exact h ⟨l.val % 3, by omega⟩

/-- A point's coordinate: the origin's and the direction's, with the spread depths. -/
theorem along_apply (o d : FVec Ideal S512x3 .f32) (s : FVec Ideal S512x576 .f32) (r : Fin 512) (l : Fin 576) :
    k0_pay1 s (k0_pay153 (Scalar.select (Scalar.cmpi .eq 3#32 0#32) 1#32 3#32) k0_pay151 0#32 o) (k0_pay154 d)
        (k0_pay155 (Scalar.select (Scalar.cmpi .eq 3#32 0#32) 1#32 3#32) k0_pay151 0#32 d)
        (k0_pay156 (Scalar.select (Scalar.cmpi .eq 3#32 0#32) 1#32 3#32) k0_pay151 0#32) (ix2 r l)
      = o (ix2 r ⟨l.val % 3, by omega⟩) + d (ix2 r ⟨l.val % 3, by omega⟩) * s (ix2 r l) := by
  pointwise [k0_pay1, k0_pay153, k0_pay154, k0_pay155, k0_pay156]
  rw [mod_eq]
  exact congrArg₂ (fun a b : EReal => a + b * s (ix2 r l)) (pick_three (fun k => o (ix2 r k)) l) (pick_three (fun k => d (ix2 r k)) l)

/-! ## The block's two outputs -/

theorem hz : (![0, 0] : Fin 2 → Nat) = fun _ => 0 := funext fun a => by fin_cases a <;> rfl

variable {x0 x1 : FVec Ideal S512x3 .f32} {x2 x3 : FVec Ideal S512x64 .f32} {r : Fin 512} {z w : ℕ → ℝ}

theorem merged_apply (h : Sound (fun i => x2 (ix2 r i)) (fun i => x3 (ix2 r i)) z w) (l : Fin 192) :
    k0_pay149 (F := Ideal) (k0_pay184 (F := Ideal) x0 x1 x2 x3) (k0_pay185 (F := Ideal) x0 x1 x2 x3)
        (k0_pay186 (F := Ideal) x0 x1 x2 x3) (k0_pay187 (F := Ideal) x0 x1 x2 x3) (ix2 r l)
      = Result.line z w l := by
  rw [merged_eq, View.ld_unit_zero hz, View.ld_unit_zero hz]
  exact Block.zall_apply h l

/-- The first output's block. -/
theorem out4_apply (h : Sound (fun i => x2 (ix2 r i)) (fun i => x3 (ix2 r i)) z w) (l : Fin 192) :
    out0_4 (F := Ideal) x0 x1 x2 x3 (ix2 r l) = Result.line z w l := by
  unfold out0_4
  rw [View.canon_unit_zero hz]
  exact merged_apply h l

/-- The second output's block; the merged depths must be numbers for the product to pick them out. -/
theorem out5_apply (h : Sound (fun i => x2 (ix2 r i)) (fun i => x3 (ix2 r i)) z w)
    (hl : ∀ l : Fin 192, ∃ y : ℝ, Result.line z w l = (y : EReal)) (l : Fin 576) :
    out0_5 (F := Ideal) x0 x1 x2 x3 (ix2 r l)
      = x0 (ix2 r ⟨l.val % 3, by omega⟩) + x1 (ix2 r ⟨l.val % 3, by omega⟩) * Result.line z w (l.val / 3) := by
  unfold out0_5
  rw [View.canon_unit_zero hz, View.ld_unit_zero hz, View.ld_unit_zero hz]
  refine (along_apply x0 x1 _ r l).trans ?_
  rw [spread_apply, one_hot _ (fun x => by rw [merged_apply h]; exact hl x), merged_apply h]

end Cert.Proof.Points

end
-- ==== Proof.Arrays.lean ====
/-
  The kernel's two arrays after the run: block `t` of every window is the 512 rows from row `512 t`, so each ray's row
  is written once, from the same row of the arguments.
-/
module

public import proofs.«01_k».proof.Proof.Points
public import proofs.«01_k».proof.Proof.Gen.KernelIdeal.Value
public import Idealize.ShloMosaic.Lib.Pipeline.Value

@[expose] public section

set_option maxRecDepth 16384

noncomputable section

namespace Cert.Proof.Arrays

open Cert.KernelIdeal Cert.KernelIdeal.Gen Idealize.ShloMosaic Idealize.ShloMosaic.TcCoe Idealize.SL.Sem
open Idealize.ShloMosaic.Pipeline (Dat)
open Cert.Proof.Ray Cert.Proof.Sampling

/-! ## Where a block lies -/

/-- Row `r` of block `t`. -/
def row (t : Fin cfg0.N) (r : Fin 512) : Fin 65536 :=
  ⟨t.val * 512 + r.val, by have h : t.val < 128 := N_0 ▸ t.isLt; omega⟩

theorem start4 : ∀ t : Fin cfg0.N, win0_4.index t 0 * win0_4.size 0 = t.val * 512 ∧ win0_4.index t 1 * win0_4.size 1 = 0
    ∧ win0_4.xsize (grid0.coords t) 0 = 512 ∧ win0_4.xsize (grid0.coords t) 1 = 192 :=
  (by decide +kernel : ∀ t : Fin grid0.N, win0_4.index t 0 * win0_4.size 0 = t.val * 512 ∧ win0_4.index t 1 * win0_4.size 1 = 0
    ∧ win0_4.xsize (grid0.coords t) 0 = 512 ∧ win0_4.xsize (grid0.coords t) 1 = 192)

theorem start5 : ∀ t : Fin cfg0.N, win0_5.index t 0 * win0_5.size 0 = t.val * 512 ∧ win0_5.index t 1 * win0_5.size 1 = 0
    ∧ win0_5.xsize (grid0.coords t) 0 = 512 ∧ win0_5.xsize (grid0.coords t) 1 = 576 :=
  (by decide +kernel : ∀ t : Fin grid0.N, win0_5.index t 0 * win0_5.size 0 = t.val * 512 ∧ win0_5.index t 1 * win0_5.size 1 = 0
    ∧ win0_5.xsize (grid0.coords t) 0 = 512 ∧ win0_5.xsize (grid0.coords t) 1 = 576)

theorem start_in : ∀ t : Fin cfg0.N,
    (win0_0.index t 0 * win0_0.size 0 = t.val * 512 ∧ win0_0.index t 1 * win0_0.size 1 = 0)
    ∧ (win0_1.index t 0 * win0_1.size 0 = t.val * 512 ∧ win0_1.index t 1 * win0_1.size 1 = 0)
    ∧ (win0_2.index t 0 * win0_2.size 0 = t.val * 512 ∧ win0_2.index t 1 * win0_2.size 1 = 0)
    ∧ (win0_3.index t 0 * win0_3.size 0 = t.val * 512 ∧ win0_3.index t 1 * win0_3.size 1 = 0) :=
  (by decide +kernel : ∀ t : Fin grid0.N,
    (win0_0.index t 0 * win0_0.size 0 = t.val * 512 ∧ win0_0.index t 1 * win0_0.size 1 = 0)
    ∧ (win0_1.index t 0 * win0_1.size 0 = t.val * 512 ∧ win0_1.index t 1 * win0_1.size 1 = 0)
    ∧ (win0_2.index t 0 * win0_2.size 0 = t.val * 512 ∧ win0_2.index t 1 * win0_2.size 1 = 0)
    ∧ (win0_3.index t 0 * win0_3.size 0 = t.val * 512 ∧ win0_3.index t 1 * win0_3.size 1 = 0))

/-! ## The blocks, read -/

/-- An element of a block that starts at row `512 t` and column 0 lies in row `512 t + r`. -/
theorem at_row {α : Type} {n : ℕ} (G : (⟨2, ![65536, n]⟩ : Shape).Idx → α) (i : (⟨2, ![65536, n]⟩ : Shape).Idx) (t : Fin cfg0.N)
    (r : Fin 512) (l : Fin n) {s0 s1 : ℕ} (e : s0 = t.val * 512 ∧ s1 = 0) (h0 : (i 0).val = s0 + 1 * r.val)
    (h1 : (i 1).val = s1 + 1 * l.val) : G i = G (ix2 (row t r) l) := by
  congr 1
  funext a
  apply Fin.ext
  match a with
  | ⟨0, _⟩ => show (i 0).val = t.val * 512 + r.val
              rw [h0, e.1, one_mul]
  | ⟨1, _⟩ => show (i 1).val = l.val
              rw [h1, e.2, one_mul, zero_add]

variable (m : (ℓ : Loc nD τ sig) → Buf (Elt Ideal) ℓ)

theorem read4 (G : S65536x192.Idx → EReal) (t : Fin cfg0.N) (r : Fin 512) (l : Fin 192) :
    (win0_4.blk t).view.read (Elt Ideal) G (ix2 r l) = G (ix2 (row t r) l) :=
  at_row G _ t r l ⟨(start4 t).1, (start4 t).2.1⟩ rfl rfl

theorem read5 (G : S65536x576.Idx → EReal) (t : Fin cfg0.N) (r : Fin 512) (l : Fin 576) :
    (win0_5.blk t).view.read (Elt Ideal) G (ix2 r l) = G (ix2 (row t r) l) :=
  at_row G _ t r l ⟨(start5 t).1, (start5 t).2.1⟩ rfl rfl

theorem in0 (c : Dev nD) (t : Fin cfg0.N) (r : Fin 512) (l : Fin 3) :
    (iblk m c 0 t : FVec Ideal S512x3 .f32) (ix2 r l) = (m ((c : Thread nD τ).loc main_arg0) : FVec Ideal S65536x3 .f32) (ix2 (row t r) l) :=
  at_row (m ((c : Thread nD τ).loc main_arg0) : FVec Ideal S65536x3 .f32) _ t r l (start_in t).1 rfl rfl

theorem in1 (c : Dev nD) (t : Fin cfg0.N) (r : Fin 512) (l : Fin 3) :
    (iblk m c 1 t : FVec Ideal S512x3 .f32) (ix2 r l) = (m ((c : Thread nD τ).loc main_arg1) : FVec Ideal S65536x3 .f32) (ix2 (row t r) l) :=
  at_row (m ((c : Thread nD τ).loc main_arg1) : FVec Ideal S65536x3 .f32) _ t r l (start_in t).2.1 rfl rfl

theorem in2 (c : Dev nD) (t : Fin cfg0.N) (r : Fin 512) (l : Fin 64) :
    (iblk m c 2 t : FVec Ideal S512x64 .f32) (ix2 r l) = (m ((c : Thread nD τ).loc main_arg2) : FVec Ideal S65536x64 .f32) (ix2 (row t r) l) :=
  at_row (m ((c : Thread nD τ).loc main_arg2) : FVec Ideal S65536x64 .f32) _ t r l (start_in t).2.2.1 rfl rfl

theorem in3 (c : Dev nD) (t : Fin cfg0.N) (r : Fin 512) (l : Fin 64) :
    (iblk m c 3 t : FVec Ideal S512x64 .f32) (ix2 r l) = (m ((c : Thread nD τ).loc main_arg3) : FVec Ideal S65536x64 .f32) (ix2 (row t r) l) :=
  at_row (m ((c : Thread nD τ).loc main_arg3) : FVec Ideal S65536x64 .f32) _ t r l (start_in t).2.2.2 rfl rfl

/-! ## The blocks tile the two arrays -/

theorem mem_blk4 (t : Fin cfg0.N) (i : S65536x192.Idx) (h : t.val * 512 ≤ (i 0 : Nat) ∧ (i 0 : Nat) < t.val * 512 + 512) :
    i ∈ ((cfg0.win 4).blk t).view.set := by
  show i ∈ ((View.whole main_v0_0).slice (win0_4.rect t)).set
  rw [View.set_slice_whole, Rect.mem_set_unit]
  have h1 : (i 1 : Nat) < 192 := (i 1).isLt
  obtain ⟨e0, e1, e2, e3⟩ := start4 t
  intro a
  match a with
  | ⟨0, _⟩ => show win0_4.index t 0 * win0_4.size 0 ≤ (i 0 : Nat) ∧ (i 0 : Nat) < win0_4.index t 0 * win0_4.size 0 + win0_4.xsize (grid0.coords t) 0
              rw [e0, e2]; exact h
  | ⟨1, _⟩ => show win0_4.index t 1 * win0_4.size 1 ≤ (i 1 : Nat) ∧ (i 1 : Nat) < win0_4.index t 1 * win0_4.size 1 + win0_4.xsize (grid0.coords t) 1
              rw [e1, e3]; omega

theorem cover4 (i : S65536x192.Idx) : ∃ t : Fin cfg0.N, (cfg0.win 4).flush t = true ∧ i ∈ ((cfg0.win 4).blk t).view.set := by
  have h0 : (i 0 : Nat) < 65536 := (i 0).isLt
  have hN : cfg0.N = 128 := N_0
  refine ⟨⟨(i 0 : Nat) / 512, by omega⟩, flush0_4 _, mem_blk4 _ i ?_⟩
  dsimp only
  omega

theorem mem_blk5 (t : Fin cfg0.N) (i : S65536x576.Idx) (h : t.val * 512 ≤ (i 0 : Nat) ∧ (i 0 : Nat) < t.val * 512 + 512) :
    i ∈ ((cfg0.win 5).blk t).view.set := by
  show i ∈ ((View.whole main_v0_1).slice (win0_5.rect t)).set
  rw [View.set_slice_whole, Rect.mem_set_unit]
  have h1 : (i 1 : Nat) < 576 := (i 1).isLt
  obtain ⟨e0, e1, e2, e3⟩ := start5 t
  intro a
  match a with
  | ⟨0, _⟩ => show win0_5.index t 0 * win0_5.size 0 ≤ (i 0 : Nat) ∧ (i 0 : Nat) < win0_5.index t 0 * win0_5.size 0 + win0_5.xsize (grid0.coords t) 0
              rw [e0, e2]; exact h
  | ⟨1, _⟩ => show win0_5.index t 1 * win0_5.size 1 ≤ (i 1 : Nat) ∧ (i 1 : Nat) < win0_5.index t 1 * win0_5.size 1 + win0_5.xsize (grid0.coords t) 1
              rw [e1, e3]; omega

theorem cover5 (i : S65536x576.Idx) : ∃ t : Fin cfg0.N, (cfg0.win 5).flush t = true ∧ i ∈ ((cfg0.win 5).blk t).view.set := by
  have h0 : (i 0 : Nat) < 65536 := (i 0).isLt
  have hN : cfg0.N = 128 := N_0
  refine ⟨⟨(i 0 : Nat) / 512, by omega⟩, flush0_5 _, mem_blk5 _ i ?_⟩
  dsimp only
  omega

/-! ## The arrays after the run -/

variable (c : Dev nD)

/-- The device's arguments: origins, directions, depths and weights. -/
abbrev origins : FVec Ideal S65536x3 .f32 := m ((c : Thread nD τ).loc main_arg0)
abbrev directions : FVec Ideal S65536x3 .f32 := m ((c : Thread nD τ).loc main_arg1)
abbrev depths : FVec Ideal S65536x64 .f32 := m ((c : Thread nD τ).loc main_arg2)
abbrev weights : FVec Ideal S65536x64 .f32 := m ((c : Thread nD τ).loc main_arg3)

/-- A ray of the device's arguments, as numbers. -/
abbrev RowSound (r : Fin 65536) (z w : ℕ → ℝ) : Prop := Sound (fun i => depths m c (ix2 r i)) (fun i => weights m c (ix2 r i)) z w

variable {m c}

theorem block_sound {t : Fin cfg0.N} {r : Fin 512} {z w : ℕ → ℝ} (h : RowSound m c (row t r) z w) :
    Sound (fun i => (iblk m c 2 t : FVec Ideal S512x64 .f32) (ix2 r i)) (fun i => (iblk m c 3 t : FVec Ideal S512x64 .f32) (ix2 r i)) z w := by
  have e2 : (fun i => (iblk m c 2 t : FVec Ideal S512x64 .f32) (ix2 r i)) = fun i => depths m c (ix2 (row t r) i) := funext fun i => in2 m c t r i
  have e3 : (fun i => (iblk m c 3 t : FVec Ideal S512x64 .f32) (ix2 r i)) = fun i => weights m c (ix2 (row t r) i) := funext fun i => in3 m c t r i
  rw [e2, e3]
  exact h

/-- The merged depths: any array whose every row is the ray's merged line. -/
theorem final4 (G : FVec Ideal S65536x192 .f32)
    (hG : ∀ r : Fin 65536, ∃ z w, RowSound m c r z w ∧ ∀ l : Fin 192, G (ix2 r l) = Result.line z w l) :
    (dats m 0 c).arrAt 4 cfg0.N = G := by
  refine (dats m 0 c).arrAt_eq_of_cover 4 G (fun t _ => ?_) cover4
  rw [Value.flushed4]
  refine funext fun j : S512x192.Idx => ?_
  obtain ⟨r, l, rfl⟩ : ∃ (r : Fin 512) (l : Fin 192), j = ix2 r l := ⟨j 0, j 1, funext fun a => by fin_cases a <;> rfl⟩
  obtain ⟨z, w, h, hl⟩ := hG (row t r)
  refine Eq.trans ?_ (read4 G t r l).symm
  rw [hl]
  exact Points.out4_apply (x0 := iblk m c 0 t) (x1 := iblk m c 1 t) (block_sound h) l

/-- The points: any array whose every row is the ray's origin and direction with the merged line. -/
theorem final5 (G : FVec Ideal S65536x576 .f32)
    (hG : ∀ r : Fin 65536, ∃ z w, RowSound m c r z w ∧ (∀ l : Fin 192, ∃ y : ℝ, Result.line z w l = (y : EReal))
      ∧ ∀ l : Fin 576, G (ix2 r l) = origins m c (ix2 r ⟨l.val % 3, by omega⟩)
          + directions m c (ix2 r ⟨l.val % 3, by omega⟩) * Result.line z w (l.val / 3)) :
    (dats m 0 c).arrAt 5 cfg0.N = G := by
  refine (dats m 0 c).arrAt_eq_of_cover 5 G (fun t _ => ?_) cover5
  rw [Value.flushed5]
  refine funext fun j : S512x576.Idx => ?_
  obtain ⟨r, l, rfl⟩ : ∃ (r : Fin 512) (l : Fin 576), j = ix2 r l := ⟨j 0, j 1, funext fun a => by fin_cases a <;> rfl⟩
  obtain ⟨z, w, h, hr, hl⟩ := hG (row t r)
  refine Eq.trans ?_ (read5 G t r l).symm
  rw [hl]
  refine (Points.out5_apply (x0 := iblk m c 0 t) (x1 := iblk m c 1 t) (block_sound h) hr l).trans ?_
  rw [in0, in1]

end Cert.Proof.Arrays

end
-- ==== Proof.Rays.lean ====
/-
  What the precondition says of a ray: its depths and padded weights are real numbers as the two programs need them.
-/
module

public import proofs.«01_k».proof.Proof.Reference
public import proofs.«01_k».proof.Pre_sound_rays

@[expose] public section

noncomputable section

namespace Cert.Proof.Rays

open Cert.Pre_sound_rays Idealize.ShloMosaic Finset
open Cert.Proof.Ray Cert.Proof.Sampling

/-! ## Real numbers from the tests -/

theorem real_of_abs_lt {x : EReal} (h : max x (-x) < ⊤) : ∃ y : ℝ, x = (y : EReal) := by
  induction x with
  | bot => simp at h
  | top => simp at h
  | coe y => exact ⟨y, rfl⟩

/-- If every quotient by the total has a positive lower bound, then the terms are real and their total is not zero. -/
theorem real_of_shares (v : Fin 62 → EReal) (h : ∀ i, (eps : EReal) ≤ Ideal.div (v i) (∑ k, v k)) :
    ∃ w : ℕ → ℝ, (∀ i : Fin 62, v i = ((w i : ℝ) : EReal)) ∧ ∑ k ∈ range 62, w k ≠ 0 ∧ ∑ k, v k = ((∑ k ∈ range 62, w k : ℝ) : EReal) := by
  have heps : (0 : EReal) < (eps : EReal) := EReal.coe_pos.2 eps_pos
  have h0 : ∑ k, v k ≠ 0 := by
    intro hs
    have hv : ∀ i, 0 < v i := by
      intro i
      by_contra hi
      have := h i
      rw [hs, Ideal.div, if_pos rfl, if_neg hi] at this
      exact absurd (lt_of_lt_of_le heps this) (by simp)
    have := Finset.single_le_sum (f := v) (fun i _ => (hv i).le) (mem_univ 0)
    rw [hs] at this
    exact absurd (hv 0) (not_lt.2 this)
  have hnt : ∑ k, v k ≠ ⊤ := by
    intro hs
    have := h 0
    rw [hs, Ideal.div, if_neg (by simp), EReal.inv_top, mul_zero] at this
    exact absurd heps (not_lt.2 this)
  have hnb : ∑ k, v k ≠ ⊥ := by
    intro hs
    have := h 0
    rw [hs, Ideal.div, if_neg (by simp), EReal.inv_bot, mul_zero] at this
    exact absurd heps (not_lt.2 this)
  have hb : ∀ i, v i ≠ ⊥ := by
    intro i hi
    apply hnb
    rw [← Finset.add_sum_erase univ v (mem_univ i), hi, EReal.bot_add]
  have ht : ∀ i, v i ≠ ⊤ := by
    intro i hi
    rw [← Finset.add_sum_erase univ v (mem_univ i), hi] at hnt hnb
    refine hnt (EReal.top_add_of_ne_bot fun e => hnb ?_)
    rw [e, EReal.add_bot]
  let w : ℕ → ℝ := fun k => if hk : k < 62 then (v ⟨k, hk⟩).toReal else 0
  have hw : ∀ i : Fin 62, v i = ((w i : ℝ) : EReal) := by
    intro i
    simp only [w, dif_pos i.isLt]
    exact (EReal.coe_toReal (ht i) (hb i)).symm
  have hsum : ∑ k, v k = ((∑ k ∈ range 62, w k : ℝ) : EReal) := by
    rw [coe_sum, Finset.sum_range]
    exact Finset.sum_congr rfl fun k _ => hw k
  refine ⟨w, hw, fun e => h0 ?_, hsum⟩
  rw [hsum, e, EReal.coe_zero]

/-! ## The tests' arrays -/

variable [hF : Facts] (o d : FVec Ideal S65536x3 .f32) (z w : FVec Ideal S65536x64 .f32)

/-- The padded weights. -/
def padded : FVec Ideal S65536x62 .f32 :=
  addf (extractStridedSlice S65536x62 ![0, 1] w hF.slices_S65536x64_S65536x62_0_1) (broadcastInDim S65536x62 ![] hF.bcast_S_S65536x62 (constant S_ .f32 0x3727C5AC#32))

/-- Each bin's share of a ray's total weight. -/
def share : FVec Ideal S65536x62 .f32 :=
  Host.divf (padded w) (broadcastInDim S65536x62 ![0, 1] hF.bcast_S65536x1_S65536x62_0_1 (broadcastInDim S65536x1 ![0] hF.bcast_S65536_S65536x1_0
    (Host.reduceAdd (padded w) (constant S_ .f32 0x00000000#32) hF.reducesTo_S65536x62_S65536_d1 hF.h_S_)))

/-- The mass up to each bin's end. -/
def upper : FVec Ideal S65536x62 .f32 := fn_cumsum (share w)

/-- The mass up to each bin's start. -/
def lower : FVec Ideal S65536x62 .f32 :=
  concatenate S65536x62 1 [⟨S65536x1, broadcastInDim S65536x1 ![] hF.bcast_S_S65536x1 (constant S_ .f32 0x00000000#32)⟩,
    ⟨S65536x61, extractStridedSlice S65536x61 ![0, 0] (upper w) hF.slices_S65536x62_S65536x61_0_0⟩] hF.concatenates_S65536x1_S65536x61_S65536x62_d1

/-- The levels. -/
def levels : FVec Ideal S128 .f32 := fn_linspace (constant S_ .f32 0x00000000#32) (constant S_ .f32 0x3F800000#32)

theorem levels_apply (j : Fin 128) : levels (ix1 j) = ((level j : ℝ) : EReal) := by
  unfold levels fn_linspace
  pointwise [id]
  split_ifs with hj
  · exact Reference.spaced j hj
  · have : j.val = 127 := by omega
    rw [this]
    simp [level]

theorem fn_finite : (fn (F := Ideal) o d z w).1 = cmpf .olt (Host.absf z) (broadcastInDim S65536x64 ![] hF.bcast_S_S65536x64 (constant S_ .f32 0x7F800000#32)) := rfl

theorem fn_sorted : (fn (F := Ideal) o d z w).2.1 = cmpf .ole (extractStridedSlice S65536x63 ![0, 0] z hF.slices_S65536x64_S65536x63_0_0)
    (extractStridedSlice S65536x63 ![0, 1] z hF.slices_S65536x64_S65536x63_0_1) := rfl

theorem fn_full : (fn (F := Ideal) o d z w).2.2.1 = cmpf .oge (share w) (broadcastInDim S65536x62 ![] hF.bcast_S_S65536x62 (constant S_ .f32 0x0DA24260#32)) := rfl

theorem fn_wide : (fn (F := Ideal) o d z w).2.2.2 = noti (andi (andi
      (cmpf .olt (broadcastInDim S65536x128x62 ![0, 1, 2] hF.bcast_S65536x1x62_S65536x128x62_0_1_2 (broadcastInDim S65536x1x62 ![0, 2] hF.bcast_S65536x62_S65536x1x62_0_2 (lower w)))
        (broadcastInDim S65536x128x62 ![0, 1, 2] hF.bcast_S1x128x1_S65536x128x62_0_1_2 (broadcastInDim S1x128x1 ![1] hF.bcast_S128_S1x128x1_1 levels)))
      (cmpf .olt (broadcastInDim S65536x128x62 ![0, 1, 2] hF.bcast_S1x128x1_S65536x128x62_0_1_2 (broadcastInDim S1x128x1 ![1] hF.bcast_S128_S1x128x1_1 levels))
        (broadcastInDim S65536x128x62 ![0, 1, 2] hF.bcast_S65536x1x62_S65536x128x62_0_1_2 (broadcastInDim S65536x1x62 ![0, 2] hF.bcast_S65536x62_S65536x1x62_0_2
          (minimumf (upper w) (broadcastInDim S65536x62 ![] hF.bcast_S_S65536x62 (constant S_ .f32 0x3F800000#32)))))))
      (broadcastInDim S65536x128x62 ![0, 1, 2] hF.bcast_S65536x1x62_S65536x128x62_0_1_2
        (cmpf .olt (broadcastInDim S65536x1x62 ![0, 2] hF.bcast_S65536x62_S65536x1x62_0_2 (subf (upper w) (lower w)))
          (broadcastInDim S65536x1x62 ![] hF.bcast_S_S65536x1x62 (constant S_ .f32 0x3727C5AC#32))))) := rfl

variable {o d z w}

theorem bit_lt (a b : EReal) : BitVec.ofBool (decide (a < b)) = 1#1 ↔ a < b := by
  by_cases h : a < b <;> simp [h]

theorem finite_of (h : (fn (F := Ideal) o d z w).1 = fun _ => 1#1) (r : Fin 65536) (i : Fin 64) : ∃ y : ℝ, z (ix2 r i) = (y : EReal) := by
  have := congrFun h (ix2 r i)
  rw [fn_finite] at this
  pointwise at this
  have hlt := (bit_lt _ _).1 this
  have e : Ideal.ofBits .f32 0x7F800000#32 = ⊤ := by simp [Ideal.ofBits, Ideal.ieee]
  rw [e] at hlt
  exact real_of_abs_lt hlt

theorem sorted_of (h : (fn (F := Ideal) o d z w).2.1 = fun _ => 1#1) (r : Fin 65536) (i : Fin 63) :
    z (ix2 r ⟨i, by omega⟩) ≤ z (ix2 r ⟨1 + i, by omega⟩) := by
  have := congrFun h (ix2 r i)
  rw [fn_sorted] at this
  pointwise at this
  exact (Reference.bit_le _ _).1 this

theorem full_of (h : (fn (F := Ideal) o d z w).2.2.1 = fun _ => 1#1) (r : Fin 65536) (i : Fin 62) :
    (eps : EReal) ≤ Ideal.div (padded w (ix2 r i)) (∑ k, padded w (ix2 r k)) := by
  have := congrFun h (ix2 r i)
  rw [fn_full] at this
  pointwise [share] at this
  rw [← ofBits_eps]
  exact (Reference.bit_le _ _).1 this

/-- Three tests do not all hold where the complement of their conjunction is set. -/
theorem not_all {a b c : BitVec 1} (h : ~~~ IntOp.andi (IntOp.andi a b) c = 1#1) : ¬(a = 1#1 ∧ b = 1#1 ∧ c = 1#1) := by
  rintro ⟨rfl, rfl, rfl⟩
  exact absurd h (by decide)

theorem wide_of (h : (fn (F := Ideal) o d z w).2.2.2 = fun _ => 1#1) (r : Fin 65536) (j : Fin 128) (i : Fin 62) :
    ¬((lower w (ix2 r i) : EReal) < (level j : EReal) ∧ (level j : EReal) < min (upper w (ix2 r i) : EReal) 1
      ∧ (upper w (ix2 r i) : EReal) - (lower w (ix2 r i) : EReal) < (short : EReal)) := by
  have := congrFun h (ix3 r j i)
  rw [fn_wide] at this
  pointwise at this
  have hn := not_all this
  rw [bit_lt, bit_lt, bit_lt, levels_apply, ofBits_short] at hn
  exact hn

/-! ## The ray -/

theorem padded_apply (r : Fin 65536) (i : Fin 62) :
    padded w (ix2 r i) = (w (ix2 r ⟨i.val + 1, by omega⟩) : EReal) + Ideal.ofBits .f32 0x3727C5AC#32 := by
  have e : (⟨1 + i.val, by omega⟩ : Fin 64) = ⟨i.val + 1, by omega⟩ := Fin.ext (Nat.add_comm _ _)
  rw [← e]
  pointwise [padded]

theorem upper_apply (r : Fin 65536) (p : ℕ → ℝ) (hp : ∀ i : Fin 62, share w (ix2 r i) = ((p i : ℝ) : EReal)) (i : Fin 62) :
    upper w (ix2 r i) = ((cum p (i + 1) : ℝ) : EReal) := by
  unfold upper fn_cumsum fn_cumsum_0
  refine Reads.running_sum _ _ _ _ ?_ r p hp i
  pointwise

theorem lower_apply (r : Fin 65536) (p : ℕ → ℝ) (hp : ∀ i : Fin 62, share w (ix2 r i) = ((p i : ℝ) : EReal)) (i : Fin 62) :
    lower w (ix2 r i) = ((cum p i : ℝ) : EReal) := by
  pointwise [lower]
  by_cases hi : i.val < 1
  · rw [dif_pos hi]
    obtain rfl : i = 0 := Fin.ext (by simpa using hi)
    simp [cum]
  · rw [dif_neg hi]
    refine (upper_apply r p hp ⟨i.val - 1, by omega⟩).trans ?_
    show ((cum p (i.val - 1 + 1) : ℝ) : EReal) = _
    rw [Nat.sub_add_cancel (by omega)]

theorem share_apply (r : Fin 65536) (i : Fin 62) : share w (ix2 r i) = Ideal.div (padded w (ix2 r i)) (∑ k, padded w (ix2 r k)) := by
  pointwise [share]

/-- Where the precondition holds, every ray is sound. -/
theorem sound (h1 : (fn (F := Ideal) o d z w).1 = fun _ => 1#1) (h2 : (fn (F := Ideal) o d z w).2.1 = fun _ => 1#1)
    (h3 : (fn (F := Ideal) o d z w).2.2.1 = fun _ => 1#1) (h4 : (fn (F := Ideal) o d z w).2.2.2 = fun _ => 1#1) (r : Fin 65536) :
    ∃ zs ws : ℕ → ℝ, Sound (fun i => z (ix2 r i)) (fun i => w (ix2 r i)) zs ws := by
  obtain ⟨ws, hw, h0, hS⟩ := real_of_shares (fun i => padded w (ix2 r i)) (full_of h3 r)
  choose y hy using finite_of h1 r
  have hshare : ∀ i : Fin 62, share w (ix2 r i) = ((mass ws i : ℝ) : EReal) := by
    intro i
    rw [share_apply]
    refine (congrArg₂ Ideal.div (hw i) hS).trans ?_
    rw [div_real _ h0]
    rfl
  let zs : ℕ → ℝ := fun k => if hk : k < 64 then y ⟨k, hk⟩ else 0
  have hz : ∀ i : Fin 64, z (ix2 r i) = ((zs i : ℝ) : EReal) := by
    intro i
    simp only [zs, dif_pos i.isLt]
    exact hy i
  refine ⟨zs, ws, hz, fun i hi => ?_, fun i => ?_, h0, fun i hi => ?_, fun j hj i hi hlo hhi => ?_⟩
  · have e0 := hz ⟨i, by omega⟩
    have e1 := hz ⟨1 + i, by omega⟩
    have := sorted_of h2 r ⟨i, hi⟩
    rw [e0, e1] at this
    rw [Nat.add_comm i 1]
    exact EReal.coe_le_coe_iff.1 this
  · exact (padded_apply r i).symm.trans (hw i)
  · have := full_of h3 r ⟨i, hi⟩
    rw [← share_apply, hshare] at this
    exact EReal.coe_le_coe_iff.1 this
  · by_contra hs
    refine wide_of h4 r ⟨j, hj⟩ ⟨i, hi⟩ ⟨?_, ?_, ?_⟩
    · rw [lower_apply r _ hshare]
      exact EReal.coe_lt_coe_iff.2 hlo
    · rw [upper_apply r _ hshare, ← EReal.coe_one, ← coe_min]
      exact EReal.coe_lt_coe_iff.2 hhi
    · rw [upper_apply r _ hshare, lower_apply r _ hshare, ← EReal.coe_sub]
      exact EReal.coe_lt_coe_iff.2 (not_le.1 hs)

end Cert.Proof.Rays

end
-- ==== Proof.lean ====
/-
  The proof of the certificate's claims, put together: the three programs' frames, the two named constants, and the
  ideal kernel's two results against the reference's, ray by ray.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_sound_rays
public import proofs.«01_k».proof.Proof.Arrays
public import proofs.«01_k».proof.Proof.Rays
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-! ## The side conditions the programs state -/

instance kernelFacts : Cert.Kernel.Facts := Cert.Kernel.Gen.facts
instance kernelIdealFacts : Cert.KernelIdeal.Facts := Cert.KernelIdeal.Gen.facts
instance referenceIdealFacts : Cert.ReferenceIdeal.Facts := Cert.ReferenceIdeal.Gen.facts
instance raysFacts : Cert.Pre_sound_rays.Facts := Cert.Pre_sound_rays.Gen.facts

/-! ## The frames: every run ends with the arguments unchanged and the semaphores at zero -/

theorem frame_kernel : Cert.quiescent_Kernel := fun m ρ _ => Cert.Kernel.Gen.frame m ρ
theorem frame_ideal : Cert.quiescent_KernelIdeal := fun m ρ _ => Cert.KernelIdeal.Gen.frame m ρ
theorem frame_ideal_rays : Cert.quiescent_KernelIdeal_pre_sound_rays := fun m ρ _ => Cert.KernelIdeal.Gen.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_rays : Cert.quiescent_ReferenceIdeal_pre_sound_rays := fun m ρ _ => frame_reference m ρ trivial

/-! ## The named constants -/

theorem preserves : Cert.preserves_Kernel_KernelIdeal :=
  ⟨IdealRules.named_const.statement Cert.KernelIdeal.κ "step" .f32 0x3C010204#32 ((127⁻¹ : ℝ) : EReal) rfl,
    IdealRules.named_const.statement Cert.KernelIdeal.κ "pad" .f32 0x7F61B1E6#32 ⊤ rfl⟩

/-! ## The two results -/

section Results

open Cert.Proof.Ray Cert.Proof.Reference Cert.Proof.Result

variable {m : (ℓ : Loc Cert.KernelIdeal.nD Cert.KernelIdeal.τ Cert.KernelIdeal.sig) → Buf (Elt Ideal) ℓ}
  (hpre : Cert.Pre_KernelIdeal_sound_rays m) (c : Dev Cert.KernelIdeal.nD)
  {V : Valuation Cert.ReferenceIdeal.τ Cert.ReferenceIdeal.sig (Elt Ideal)}
include hpre

/-- Every ray of the kernel's arguments is sound, and so is the reference's, which is the same ray. -/
theorem ray_sound (hz : depths V = Arrays.depths m c) (hw : weights V = Arrays.weights m c) (r : Fin 65536) :
    ∃ z w, Arrays.RowSound m c r z w ∧ RowSound V r z w := by
  obtain ⟨h1, h2, h3, h4⟩ := hpre c
  obtain ⟨z, w, h⟩ := Rays.sound h1 h2 h3 h4 r
  refine ⟨z, w, h, ?_⟩
  unfold RowSound
  rw [hz, hw]
  exact h

/-- The kernel's merged depths are the reference's. -/
theorem depths_agree (hz : depths V = Arrays.depths m c) (hw : weights V = Arrays.weights m c) :
    (Cert.KernelIdeal.Gen.dats m 0 c).arrAt 4 Cert.KernelIdeal.cfg0.N = zall V := by
  refine Arrays.final4 (zall V) fun r => ?_
  obtain ⟨z, w, h, h'⟩ := ray_sound hpre c hz hw r
  exact ⟨z, w, h, fun l => zall_apply h' l⟩

/-- The kernel's points are the reference's. -/
theorem points_agree (hz : depths V = Arrays.depths m c) (hw : weights V = Arrays.weights m c) :
    (Cert.KernelIdeal.Gen.dats m 0 c).arrAt 5 Cert.KernelIdeal.cfg0.N
      = points (Arrays.origins m c) (Arrays.directions m c) (zall V) := by
  refine Arrays.final5 _ fun r => ?_
  obtain ⟨z, w, h, h'⟩ := ray_sound hpre c hz hw r
  refine ⟨z, w, h, line_real h', fun l => ?_⟩
  rw [points_apply, zall_apply h']

end Results

open Idealize.ShloMosaic.StableHlo in
theorem algebraic : Cert.algebraic_KernelIdeal_ReferenceIdeal_pre_sound_rays := by
  intro m ρ m' ρ' hpre hagree
  have hz (c) : Reference.depths (launchContents m' c) = Arrays.depths m c := (hagree c).2.2.1
  have hw (c) : Reference.weights (launchContents m' c) = Arrays.weights m c := (hagree c).2.2.2
  refine ⟨fun c => Result.points (Arrays.origins m c) (Arrays.directions m c) (Result.zall (launchContents m' c)),
    fun c => Result.zall (launchContents m' c), ?_, ?_⟩
  · exact (θ_run Cert.KernelIdeal.defs _ _).mono
      (fun _ h c => ⟨(h c).2.1.trans (points_agree hpre c (hz c) (hw c)), (h c).1.trans (depths_agree hpre c (hz c) (hw c)), (h c).2.2⟩)
      (Cert.KernelIdeal.Value.run_blocks (F := Ideal) m ρ)
  · refine (θ_run Cert.ReferenceIdeal.defs _ _).mono (fun _ h c => ⟨(h c).1.trans ?_, (h c).2.1, (h c).2.2⟩)
      (Cert.ReferenceIdeal.Value.run (F := Ideal) m' ρ')
    exact congrArg₂ (fun o d => Result.points o d (Result.zall (launchContents m' c))) (hagree c).1 (hagree c).2.1

theorem claim : Cert.Claim :=
  ⟨kernelFacts, kernelIdealFacts, referenceIdealFacts, raysFacts, frame_kernel, frame_ideal, frame_ideal_rays, frame_reference,
    frame_reference_rays, preserves, algebraic⟩

end Cert.Proof

end
